-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_table_ok_KernelIdeal [hPre_table_ok_KernelIdeal : Cert.Pre_table_ok_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_table_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_table_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_table_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_table_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_ok_ReferenceIdeal [hPre_table_ok_ReferenceIdeal : Cert.Pre_table_ok_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_table_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_table_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_table_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_table_ok_KernelIdeal [hKernelIdeal : Cert.KernelIdeal.Facts] [hPre_table_ok_KernelIdeal : Cert.Pre_table_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_ok_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_table_ok_ReferenceIdeal [hReferenceIdeal : Cert.ReferenceIdeal.Facts] [hPre_table_ok_ReferenceIdeal : Cert.Pre_table_ok_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_ok_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_table_ok_KernelIdeal [hKernelIdeal : Cert.KernelIdeal.Facts] [hReferenceIdeal : Cert.ReferenceIdeal.Facts] [hPre_table_ok_KernelIdeal : Cert.Pre_table_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_ok_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2, 4] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2, 4] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_table_ok_KernelIdeal : Cert.Pre_table_ok_KernelIdeal.Facts) (hPre_table_ok_ReferenceIdeal : Cert.Pre_table_ok_ReferenceIdeal.Facts),
    quiescent_Kernel (hKernel := hKernel)
    ∧ quiescent_KernelIdeal (hKernelIdeal := hKernelIdeal)
    ∧ quiescent_KernelIdeal_pre_table_ok_KernelIdeal (hKernelIdeal := hKernelIdeal) (hPre_table_ok_KernelIdeal := hPre_table_ok_KernelIdeal)
    ∧ quiescent_ReferenceIdeal (hReferenceIdeal := hReferenceIdeal)
    ∧ quiescent_ReferenceIdeal_pre_table_ok_ReferenceIdeal (hReferenceIdeal := hReferenceIdeal) (hPre_table_ok_ReferenceIdeal := hPre_table_ok_ReferenceIdeal)
    ∧ preserves_Kernel_KernelIdeal
    ∧ algebraic_KernelIdeal_ReferenceIdeal_pre_table_ok_KernelIdeal (hKernelIdeal := hKernelIdeal) (hReferenceIdeal := hReferenceIdeal) (hPre_table_ok_KernelIdeal := hPre_table_ok_KernelIdeal)
-- ==== Pre_table_ok_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32x1 : Shape := ⟨2, ![32, 1]⟩
abbrev S256 : Shape := ⟨1, ![256]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  bcast_S_S256x32x16x128 : S_.BroadcastsInDim S256x32x16x128 (![] : Fin 0 → Fin S256x32x16x128.rank)
  bcast_S_S32x1 : S_.BroadcastsInDim S32x1 (![] : Fin 0 → Fin S32x1.rank)
  bcast_S_S32x256 : S_.BroadcastsInDim S32x256 (![] : Fin 0 → Fin S32x256.rank)

variable [Facts]

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32x1 32) : IVec S32x1x16x128 1 × IVec S256x32x16x128 1 × IVec S32x1 1 × IVec S32x256 1 :=
  let main_v0 : IVec S256 32 := iotaInDim S256 32 0
  let main_v1 : IVec S1x256 32 := broadcastInDim S1x256 ![1] bcast_S256_S1x256_1 main_v0
  let main_v2 : IVec S32x256 32 := broadcastInDim S32x256 ![0, 1] bcast_S1x256_S32x256_0_1 main_v1
  let main_v3 : IVec S32x256 32 := broadcastInDim S32x256 ![0, 1] bcast_S32x1_S32x256_0_1 main_arg4
  let main_v4 : IVec S32x256 1 := cmpi .sge main_v2 main_v3
  let main_v5 : FVec F S32x1x16x128 .f32 := Host.absf main_arg0
  let main_cst : FVec F S_ .f32 := constant S_ .f32 0x7F800000#32
  let main_v6 : FVec F S32x1x16x128 .f32 := broadcastInDim S32x1x16x128 ![] bcast_S_S32x1x16x128 main_cst
  let main_v7 : IVec S32x1x16x128 1 := cmpf .olt main_v5 main_v6
  let main_v8 : FVec F S256x32x16x128 .f32 := Host.absf main_arg1
  let main_cst_0 : FVec F S_ .f32 := constant S_ .f32 0x7F800000#32
  let main_v9 : FVec F S256x32x16x128 .f32 := broadcastInDim S256x32x16x128 ![] bcast_S_S256x32x16x128 main_cst_0
  let main_v10 : IVec S256x32x16x128 1 := cmpf .olt main_v8 main_v9
  let main_c : IVec S_ 32 := constantI S_ 32 1#32
  let main_v11 : IVec S32x1 32 := broadcastInDim S32x1 ![] bcast_S_S32x1 main_c
  let main_v12 : IVec S32x1 1 := cmpi .sge main_arg4 main_v11
  let main_c_1 : IVec S_ 32 := constantI S_ 32 0#32
  let main_v13 : IVec S32x256 32 := broadcastInDim S32x256 ![] bcast_S_S32x256 main_c_1
  let main_v14 : IVec S32x256 1 := cmpi .sge main_arg3 main_v13
  let main_c_2 : IVec S_ 32 := constantI S_ 32 512#32
  let main_v15 : IVec S32x256 32 := broadcastInDim S32x256 ![] bcast_S_S32x256 main_c_2
  let main_v16 : IVec S32x256 1 := cmpi .slt main_arg3 main_v15
  let main_v17 : IVec S32x256 1 := andi main_v14 main_v16
  let main_v18 : IVec S32x256 1 := ori main_v4 main_v17
  (main_v7, main_v10, main_v12, main_v18)
-- ==== Pre_table_ok_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32x1 : Shape := ⟨2, ![32, 1]⟩
abbrev S256 : Shape := ⟨1, ![256]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  bcast_S_S512x32x16x128 : S_.BroadcastsInDim S512x32x16x128 (![] : Fin 0 → Fin S512x32x16x128.rank)
  bcast_S_S32x1 : S_.BroadcastsInDim S32x1 (![] : Fin 0 → Fin S32x1.rank)
  bcast_S_S32x256 : S_.BroadcastsInDim S32x256 (![] : Fin 0 → Fin S32x256.rank)

variable [Facts]

def fn {F : FTy → Type} [FloatOps F] (main_arg0 : FVec F S32x1x16x128 .f32) (main_arg1 : FVec F S512x32x16x128 .f32) (main_arg2 : FVec F S512x32x16x128 .f32) (main_arg3 : IVec S32x256 32) (main_arg4 : IVec S32x1 32) : IVec S32x1x16x128 1 × IVec S512x32x16x128 1 × IVec S32x1 1 × IVec S32x256 1 :=
  let main_v0 : IVec S256 32 := iotaInDim S256 32 0
  let main_v1 : IVec S1x256 32 := broadcastInDim S1x256 ![1] bcast_S256_S1x256_1 main_v0
  let main_v2 : IVec S32x256 32 := broadcastInDim S32x256 ![0, 1] bcast_S1x256_S32x256_0_1 main_v1
  let main_v3 : IVec S32x256 32 := broadcastInDim S32x256 ![0, 1] bcast_S32x1_S32x256_0_1 main_arg4
  let main_v4 : IVec S32x256 1 := cmpi .sge main_v2 main_v3
  let main_v5 : FVec F S32x1x16x128 .f32 := Host.absf main_arg0
  let main_cst : FVec F S_ .f32 := constant S_ .f32 0x7F800000#32
  let main_v6 : FVec F S32x1x16x128 .f32 := broadcastInDim S32x1x16x128 ![] bcast_S_S32x1x16x128 main_cst
  let main_v7 : IVec S32x1x16x128 1 := cmpf .olt main_v5 main_v6
  let main_v8 : FVec F S512x32x16x128 .f32 := Host.absf main_arg1
  let main_cst_0 : FVec F S_ .f32 := constant S_ .f32 0x7F800000#32
  let main_v9 : FVec F S512x32x16x128 .f32 := broadcastInDim S512x32x16x128 ![] bcast_S_S512x32x16x128 main_cst_0
  let main_v10 : IVec S512x32x16x128 1 := cmpf .olt main_v8 main_v9
  let main_c : IVec S_ 32 := constantI S_ 32 1#32
  let main_v11 : IVec S32x1 32 := broadcastInDim S32x1 ![] bcast_S_S32x1 main_c
  let main_v12 : IVec S32x1 1 := cmpi .sge main_arg4 main_v11
  let main_c_1 : IVec S_ 32 := constantI S_ 32 0#32
  let main_v13 : IVec S32x256 32 := broadcastInDim S32x256 ![] bcast_S_S32x256 main_c_1
  let main_v14 : IVec S32x256 1 := cmpi .sge main_arg3 main_v13
  let main_c_2 : IVec S_ 32 := constantI S_ 32 512#32
  let main_v15 : IVec S32x256 32 := broadcastInDim S32x256 ![] bcast_S_S32x256 main_c_2
  let main_v16 : IVec S32x256 1 := cmpi .slt main_arg3 main_v15
  let main_v17 : IVec S32x256 1 := andi main_v14 main_v16
  let main_v18 : IVec S32x256 1 := ori main_v4 main_v17
  (main_v7, main_v10, main_v12, main_v18)
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32x1 : Shape := ⟨2, ![32, 1]⟩
abbrev S32x8192 : Shape := ⟨2, ![32, 8192]⟩
abbrev S3x256x32x128 : Shape := ⟨4, ![3, 256, 32, 128]⟩
abbrev S32x16x128 : Shape := ⟨3, ![32, 16, 128]⟩
abbrev S32x16 : Shape := ⟨2, ![32, 16]⟩
abbrev S3 : Shape := ⟨1, ![3]⟩
abbrev S2 : Shape := ⟨1, ![2]⟩
abbrev S_ : Shape := ⟨0, ![]⟩
abbrev S1 : Shape := ⟨1, ![1]⟩
abbrev S1x256x32x128 : Shape := ⟨4, ![1, 256, 32, 128]⟩
abbrev S256x32x128 : Shape := ⟨3, ![256, 32, 128]⟩
abbrev S256x32x1x128 : Shape := ⟨4, ![256, 32, 1, 128]⟩
abbrev S32x256x256 : Shape := ⟨3, ![32, 256, 256]⟩
abbrev S32x1x256 : Shape := ⟨3, ![32, 1, 256]⟩
abbrev S32x1x1 : Shape := ⟨3, ![32, 1, 1]⟩
abbrev S256x8192 : Shape := ⟨2, ![256, 8192]⟩
abbrev S32x1x1x128 : Shape := ⟨4, ![32, 1, 1, 128]⟩
abbrev S32x128 : Shape := ⟨2, ![32, 128]⟩
abbrev S8192x128 : Shape := ⟨2, ![8192, 128]⟩
abbrev S32 : Shape := ⟨1, ![32]⟩
abbrev S32x1x128 : Shape := ⟨3, ![32, 1, 128]⟩
abbrev S32x16x1 : Shape := ⟨3, ![32, 16, 1]⟩

abbrev nBuf : Space → Nat
  | .hbm => 6
  | .vmem => 11
  | .smem => 0
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32x1, .i32⟩
  | .hbm, ⟨5, _⟩ => ⟨S32x1x16x128, .f32⟩
  | .local _ .vmem, ⟨0, _⟩ => ⟨S32x1x16x128, .f32⟩
  | .local _ .vmem, ⟨1, _⟩ => ⟨S32x1x16x128, .f32⟩
  | .local _ .vmem, ⟨2, _⟩ => ⟨S32x256, .i32⟩
  | .local _ .vmem, ⟨3, _⟩ => ⟨S32x1, .i32⟩
  | .local _ .vmem, ⟨4, _⟩ => ⟨S32x8192, .f32⟩
  | .local _ .vmem, ⟨5, _⟩ => ⟨S3x256x32x128, .f32⟩
  | .local _ .vmem, ⟨6, _⟩ => ⟨S3x256x32x128, .f32⟩
  | .local _ .vmem, ⟨7, _⟩ => ⟨S32x16x128, .f32⟩
  | .local _ .vmem, ⟨8, _⟩ => ⟨S32x16, .f32⟩
  | .local _ .vmem, ⟨9, _⟩ => ⟨S32x16x128, .f32⟩
  | .local _ .vmem, ⟨10, _⟩ => ⟨S32x16, .f32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v1004 : BitVec 32 := Scalar.muli v2 c8_i32_987
  let v1005 : BitVec 32 := Scalar.addi c0_i32_988 v1004
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_989 : BitVec 32 := 4#32
  let v1006 : BitVec 32 := Scalar.muli v9 c4_i32_989
  let v1007 : BitVec 32 := Scalar.addi v1005 v1006
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1008 : BitVec 32 := Scalar.muli v8 c1_i32_990
  let v1009 : BitVec 32 := Scalar.addi v1007 v1008
  v1009.toNat
def k0_dev2 (d0 : Dev nD) : Nat :=
  let c0_i32_995 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_994 : BitVec 32 := 8#32
  let v1010 : BitVec 32 := Scalar.muli v2 c8_i32_994
  let v1011 : BitVec 32 := Scalar.addi c0_i32_995 v1010
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_996 : BitVec 32 := 4#32
  let v1012 : BitVec 32 := Scalar.muli v9 c4_i32_996
  let v1013 : BitVec 32 := Scalar.addi v1011 v1012
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_997 : BitVec 32 := 1#32
  let v1014 : BitVec 32 := Scalar.muli v8 c1_i32_997
  let v1015 : BitVec 32 := Scalar.addi v1013 v1014
  v1015.toNat
def k0_dev3 (d0 : Dev nD) : Nat :=
  let c0_i32_1001 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1000 : BitVec 32 := 8#32
  let v1020 : BitVec 32 := Scalar.muli v2 c8_i32_1000
  let v1021 : BitVec 32 := Scalar.addi c0_i32_1001 v1020
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1002 : BitVec 32 := 4#32
  let v1022 : BitVec 32 := Scalar.muli v9 c4_i32_1002
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1024 : BitVec 32 := Scalar.muli v8 c1_i32_1003
  let v1025 : BitVec 32 := Scalar.addi v1023 v1024
  v1025.toNat
abbrev stage0_0 : Fin 1 → Memref sig .tc .vmem S32x1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32x1 : Shape := ⟨2, ![32, 1]⟩
abbrev S32x256x1 : Shape := ⟨3, ![32, 256, 1]⟩
abbrev S32x256x32x16x128 : Shape := ⟨5, ![32, 256, 32, 16, 128]⟩
abbrev S32x16x1x256x32 : Shape := ⟨5, ![32, 16, 1, 256, 32]⟩
abbrev S_ : Shape := ⟨0, ![]⟩
abbrev S256 : Shape := ⟨1, ![256]⟩
abbrev S1x256 : Shape := ⟨2, ![1, 256]⟩
abbrev S32x1x1x256x1 : Shape := ⟨5, ![32, 1, 1, 256, 1]⟩
abbrev S32x16x1 : Shape := ⟨3, ![32, 16, 1]⟩
abbrev S32x16x1x1x1 : Shape := ⟨5, ![32, 16, 1, 1, 1]⟩
abbrev S32x16x128x1 : Shape := ⟨4, ![32, 16, 128, 1]⟩

abbrev nBuf : Space → Nat
  | .hbm => 37
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32x1, .i32⟩
  | .hbm, ⟨5, _⟩ => ⟨S32x256x1, .i32⟩
  | .hbm, ⟨6, _⟩ => ⟨S32x256x32x16x128, .f32⟩
  | .hbm, ⟨7, _⟩ => ⟨S32x256x1, .i32⟩
  | .hbm, ⟨8, _⟩ => ⟨S32x256x32x16x128, .f32⟩
  | .hbm, ⟨9, _⟩ => ⟨S32x16x1x256x32, .f32⟩
  | .hbm, ⟨10, _⟩ => ⟨S_, .f32⟩
  | .hbm, ⟨11, _⟩ => ⟨S32x16x1x256x32, .f32⟩
  | .hbm, ⟨12, _⟩ => ⟨S32x16x1x256x32, .f32⟩
  | .hbm, ⟨13, _⟩ => ⟨S256, .i32⟩
  | .hbm, ⟨14, _⟩ => ⟨S1x256, .i32⟩
  | .hbm, ⟨15, _⟩ => ⟨S32x256, .i32⟩
  | .hbm, ⟨16, _⟩ => ⟨S32x256, .i32⟩
  | .hbm, ⟨17, _⟩ => ⟨S32x256, .i1⟩
  | .hbm, ⟨18, _⟩ => ⟨S32x1x1x256x1, .i1⟩
  | .hbm, ⟨19, _⟩ => ⟨S_, .f32⟩
  | .hbm, ⟨20, _⟩ => ⟨S_, .f32⟩
  | .hbm, ⟨21, _⟩ => ⟨S32x16x1x256x32, .i1⟩
  | .hbm, ⟨22, _⟩ => ⟨S32x16x1x256x32, .f32⟩
  | .hbm, ⟨23, _⟩ => ⟨S32x16x1x256x32, .f32⟩
  | .hbm, ⟨24, _⟩ => ⟨S_, .f32⟩
  | .hbm, ⟨25, _⟩ => ⟨S32x16x1, .f32⟩
  | .hbm, ⟨26, _⟩ => ⟨S32x16x1x1x1, .f32⟩
  | .hbm, ⟨27, _⟩ => ⟨S32x16x1x256x32, .f32⟩
  | .hbm, ⟨28, _⟩ => ⟨S32x16x1x256x32, .f32⟩
  | .hbm, ⟨29, _⟩ => ⟨S32x16x1x256x32, .f32⟩
  | .hbm, ⟨30, _⟩ => ⟨S_, .f32⟩
  | .hbm, ⟨31, _⟩ => ⟨S32x16x1, .f32⟩
  | .hbm, ⟨32, _⟩ => ⟨S32x16x1x1x1, .f32⟩
  | .hbm, ⟨33, _⟩ => ⟨S32x16x1x256x32, .f32⟩
  | .hbm, ⟨34, _⟩ => ⟨S32x16x1x256x32, .f32⟩
  | .hbm, ⟨35, _⟩ => ⟨S32x16x128x1, .f32⟩
  | .hbm, ⟨36, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Proof.Setup.lean ====
/-
The resource algebra of the run, the memrefs by name, the peer of a device, and the cells of the exchange.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Paged

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Rounds of the staging cell, rounds of the exchange, and the counters of the local copies. -/
abbrev UU : Type := UR sig nD τ × (UR sig nD τ × Counters)

local notation "𝕄" => MT nD τ sig Unit (Elt F) ℕ UU ℕ

/-- Where the staging cell's rounds live, -/
abbrev EP : Emb (UR sig nD τ) (MT nD τ sig Unit (Elt F) ℕ UU ℕ) := embL
/-- and the exchange's. -/
abbrev ER : Emb (UR sig nD τ) (MT nD τ sig Unit (Elt F) ℕ UU ℕ) :=
  (Emb.inl : Emb (UR sig nD τ) (UR sig nD τ × Counters)).trans embR

instance ER_landsIn : (ER : Emb (UR sig nD τ) (MT nD τ sig Unit (Elt F) ℕ UU ℕ)).LandsIn (upEmb : UEmb _ (MT nD τ sig Unit (Elt F) ℕ UU ℕ)) := by
  unfold ER; infer_instance

/-- What memref `M`'s buffer on device `c` can hold, and that it holds `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev qM : Memref sig .tc .hbm S32x1x16x128 .f32 := Memref.whole main_arg0
abbrev kM : Memref sig .tc .hbm S256x32x16x128 .f32 := Memref.whole main_arg1
abbrev vM : Memref sig .tc .hbm S256x32x16x128 .f32 := Memref.whole main_arg2
abbrev btM : Memref sig .tc .hbm S32x256 .i32 := Memref.whole main_arg3
abbrev lensM : Memref sig .tc .hbm S32x1 .i32 := Memref.whole main_arg4
abbrev oM : Memref sig .tc .vmem S32x1x16x128 .f32 := Memref.whole cc0_stg0_0
abbrev qvM : Memref sig .tc .vmem S32x1x16x128 .f32 := Memref.whole cc0_scratch0
abbrev btvM : Memref sig .tc .vmem S32x256 .i32 := Memref.whole cc0_scratch1
abbrev lensvM : Memref sig .tc .vmem S32x1 .i32 := Memref.whole cc0_scratch2
abbrev wM : Memref sig .tc .vmem S32x8192 .f32 := Memref.whole cc0_scratch3
abbrev kbM : Memref sig .tc .vmem S3x256x32x128 .f32 := Memref.whole cc0_scratch4
abbrev vbM : Memref sig .tc .vmem S3x256x32x128 .f32 := Memref.whole cc0_scratch5
abbrev accM : Memref sig .tc .vmem S32x16x128 .f32 := Memref.whole cc0_scratch6
abbrev lM : Memref sig .tc .vmem S32x16 .f32 := Memref.whole cc0_scratch7
abbrev raccM : Memref sig .tc .vmem S32x16x128 .f32 := Memref.whole cc0_scratch8
abbrev rlM : Memref sig .tc .vmem S32x16 .f32 := Memref.whole cc0_scratch9

end Cert.KernelIdeal.Paged

end
-- ==== Proof.Heads.lean ====
/-
What one device computes from its own arguments, head by head: the query row of a head, the pages of a head, the
unnormalised weighted sum and the sum of weights; and that reading the buffers of the kernel gives these.
-/
module

public import proofs.«01_k».proof.Proof.Setup
public import Idealize.ShloMosaic.Lib.ValueLayout
public import Idealize.ShloMosaic.Lib.Pipeline.Value
public import Idealize.ShloMosaic.Lib.Pipeline.FrameBody
public import Idealize.ShloMosaic.Lib.Writes
public import Idealize.ShloMosaic.Lib.ViewIndex
public import Idealize.ShloMosaic.Lib.VecWindow

@[expose] public section

noncomputable section

namespace Cert.KernelIdeal.Paged

open Cert.KernelIdeal Cert.KernelIdeal.Gen
open Idealize.ShloMosaic Idealize.ShloMosaic.TcCoe Idealize.ShloMosaic.Tactic
open Idealize.ShloMosaic.ValueIdx

open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The values -/

/-- Head `h` of the queries. -/
def qH (fq : S32x1x16x128.Idx → F .f32) (h : Fin 16) : S32x1x1x128.Idx → F .f32 := fun i => fq (ix4 (i 0) (i 1) h (i 3))
/-- Head `h` of the pages. -/
def kH (fk : S256x32x16x128.Idx → F .f32) (h : Fin 16) : S1x256x32x128.Idx → F .f32 := fun i => fk (ix4 (i 1) (i 2) h (i 3))

/-- How often each token of the device's pages is attended, per batch row. -/
def wv (y : BitVec 32) (fb : S32x256.Idx → BitVec 32) (fl : S32x1.Idx → BitVec 32) : FVec F S32x8192 .f32 :=
  k0_pay4 (k0_pay2 y) (k0_pay3 (F := F) fl) fb

/-- The unnormalised weighted sum of the values of head `h`, -/
def accH (fq : S32x1x16x128.Idx → F .f32) (fk fv : S256x32x16x128.Idx → F .f32) (w : FVec F S32x8192 .f32) (h : Fin 16) : FVec F S32x1x128 .f32 :=
  k0_pay6 (qH fq h) (kH fk h) (kH fv h) w
/-- the same for all heads, -/
def accV (fq : S32x1x16x128.Idx → F .f32) (fk fv : S256x32x16x128.Idx → F .f32) (w : FVec F S32x8192 .f32) : S32x16x128.Idx → F .f32 :=
  fun i => accH fq fk fv w (i 1) (ix3 (i 0) (0 : Fin 1) (i 2))
/-- the sum of the weights of head `h`, -/
def sumH (fq : S32x1x16x128.Idx → F .f32) (fk : S256x32x16x128.Idx → F .f32) (w : FVec F S32x8192 .f32) (h : Fin 16) : FVec F S32 .f32 :=
  multiReduction .add [1] S32 (k0_pay5 (qH fq h) (kH fk h) w) 0x00000000#32 reduces_S32x8192_S32 (.inl rfl) rfl
/-- and for all heads. -/
def sumV (fq : S32x1x16x128.Idx → F .f32) (fk : S256x32x16x128.Idx → F .f32) (w : FVec F S32x8192 .f32) : S32x16.Idx → F .f32 :=
  fun i => sumH fq fk w (i 1) (ix1 (i 0))

/-! ## Reading the pages' slots -/

section Slots

variable {Val : EltTy → Type} {sig' : RefSig} {κ : Kind} {sp sp' : Space}

/-- Slot `s` of the three slots of pages, as a transfer sees it. -/
abbrev slotM (M : Memref sig' κ sp S3x256x32x128 .f32) (s : ℕ) (inb : ∀ a, (![s, 0, 0, 0] : Fin 4 → ℕ) a + S1x256x32x128.size a ≤ S3x256x32x128.size a)
    (hr : ∀ a, (Rect.unit (s := S3x256x32x128) ![s, 0, 0, 0] S1x256x32x128.size inb).stride a = 1) (hq : S1x256x32x128.Squeezes S256x32x128) : Memref sig' κ sp S256x32x128 .f32 :=
  (M.slice (Rect.unit (s := S3x256x32x128) ![s, 0, 0, 0] S1x256x32x128.size inb) hr).squeeze S256x32x128 hq

/-- Head `h` of the pages, as a transfer sees it. -/
abbrev headM (M : Memref sig' κ sp S256x32x16x128 .f32) (h : ℕ) (inb : ∀ a, (![0, 0, h, 0] : Fin 4 → ℕ) a + S256x32x1x128.size a ≤ S256x32x16x128.size a)
    (hr : ∀ a, (Rect.unit (s := S256x32x16x128) ![0, 0, h, 0] S256x32x1x128.size inb).stride a = 1) (hq : S256x32x1x128.Squeezes S256x32x128) : Memref sig' κ sp S256x32x128 .f32 :=
  (M.slice (Rect.unit (s := S256x32x16x128) ![0, 0, h, 0] S256x32x1x128.size inb) hr).squeeze S256x32x128 hq

/-- A load of slot `s` after a transfer into it reads what was transferred. -/
theorem slot_hit (M : Memref sig' κ sp S3x256x32x128 .f32) (s : ℕ) (inb inb') (hr) (hq) (f : M.view.ty.Contents Val) (d : S256x32x128.Idx → Val .f32) :
    View.readAt Val M.view (Rect.unit (s := S3x256x32x128) ![s, 0, 0, 0] S1x256x32x128.size inb).toLoadRect
        (View.write Val (slotM M s inb' hr hq).view f d Finset.univ)
      = fun i => d (ix3 (i 1) (i 2) (i 3)) := by
  funext i
  have hi : (i : S1x256x32x128.Idx) = Shape.reshapeEquiv hq.numel_eq (ix3 (i 1) (i 2) (i 3) : S256x32x128.Idx) := by
    rw [eq_ix4 (i : S1x256x32x128.Idx)]
    refine Eq.trans ?_ (reshapeEquiv_ix3_1abc hq.numel_eq _ _ _).symm
    have h0 : ((i : S1x256x32x128.Idx) 0 : Fin 1) = ⟨0, Nat.one_pos⟩ := Subsingleton.elim (α := Fin 1) _ _
    exact congrArg (fun z => ix4 z (i 1) (i 2) (i 3)) h0
  rw [View.readAt_rect]
  conv_lhs => rw [hi]
  exact View.read_write_of_mem (v := (slotM M s inb' hr hq).view) f d (Finset.mem_univ _)

/-- A load of slot `s` after a transfer into another slot reads what was there. -/
theorem slot_skip (M : Memref sig' κ sp S3x256x32x128 .f32) (s t : ℕ) (hst : t ≠ s) (inb inb') (hr) (hq) (f : M.view.ty.Contents Val) (d : S256x32x128.Idx → Val .f32) :
    View.readAt Val M.view (Rect.unit (s := S3x256x32x128) ![s, 0, 0, 0] S1x256x32x128.size inb).toLoadRect
        (View.write Val (slotM M t inb' hr hq).view f d Finset.univ)
      = View.readAt Val M.view (Rect.unit (s := S3x256x32x128) ![s, 0, 0, 0] S1x256x32x128.size inb).toLoadRect f := by
  rw [View.readAt_rect, View.readAt_rect]
  refine View.read_congr fun i hi => View.write_of_not_mem _ _ _ fun hm => ?_
  obtain ⟨x, rfl⟩ := View.exists_of_mem_set_slice hi
  obtain ⟨y, -, hy⟩ := Finset.mem_map.mp hm
  have h := M.view.emb.injective (hy : M.view.emb ((Rect.unit (s := S3x256x32x128) ![t, 0, 0, 0] S1x256x32x128.size inb').emb (Shape.reshapeEquiv hq.numel_eq y)) = M.view.emb _)
  have h0 := congrArg (fun j : S3x256x32x128.Idx => (j 0 : ℕ)) h
  simp only [Rect.emb_apply] at h0
  have e1 : ((Shape.reshapeEquiv hq.numel_eq y : S1x256x32x128.Idx) 0).val = 0 := by
    have := ((Shape.reshapeEquiv hq.numel_eq y : S1x256x32x128.Idx) 0).isLt
    exact Nat.lt_one_iff.mp this
  have e2 : (x 0).val = 0 := by
    have := (x 0).isLt
    exact Nat.lt_one_iff.mp this
  have h1 : t + 1 * ((Shape.reshapeEquiv hq.numel_eq y : S1x256x32x128.Idx) 0).val = s + 1 * (x 0).val := h0
  rw [e1, e2] at h1
  exact hst (by omega)

/-- What a transfer of head `h` of the pages carries. -/
theorem head_read (M : Memref sig' κ sp S256x32x16x128 .f32) (h : Fin 16) (inb) (hr) (hq) (f : M.view.ty.Contents Val)
    (i : S256x32x128.Idx) :
    View.read Val (headM M h.val inb hr hq).view f i = View.read Val M.view f (ix4 (i 0) (i 1) h (i 2)) := by
  have hi : Shape.reshapeEquiv hq.numel_eq i = (ix4 (i 0) (i 1) (0 : Fin 1) (i 2) : S256x32x1x128.Idx) :=
    Shape.reshapeEquiv_eq_of_rowMajor _ (by
      rw [Shape.rowMajor_val_four, Shape.rowMajor_val_three]
      show (((i 0).val * 32 + (i 1).val) * 1 + 0) * 128 + (i 2).val = ((i 0).val * 32 + (i 1).val) * 128 + (i 2).val
      omega)
  have hv : View.read Val (headM M h.val inb hr hq).view f i
      = View.read Val M.view f ((Rect.unit (s := S256x32x16x128) ![0, 0, h.val, 0] S256x32x1x128.size inb).emb (Shape.reshapeEquiv hq.numel_eq i)) := rfl
  rw [hv, hi]
  congr 1
  funext a
  apply Fin.ext
  rw [Rect.emb_apply]
  match a with
  | ⟨0, _⟩ => show 0 + 1 * (i 0).val = (i 0).val; omega
  | ⟨1, _⟩ => show 0 + 1 * (i 1).val = (i 1).val; omega
  | ⟨2, _⟩ => show h.val + 1 * 0 = h.val; omega
  | ⟨3, _⟩ => show 0 + 1 * (i 2).val = (i 2).val; omega

end Slots

/-! ## The loads of the body -/

/-- A load of all of a buffer after a transfer of all of another into it reads the other. -/
theorem whole_hit {S : Shape} {e : EltTy} {sp sp' : Space} (M : Memref sig .tc sp S e) (M' : Memref sig .tc sp' S e) {off : Fin S.rank → ℕ}
    (inb : ∀ a, off a + S.size a ≤ S.size a) (f : M.view.ty.Contents (Elt F)) (g : M'.view.ty.Contents (Elt F)) :
    View.readAt (Elt F) M.view (Rect.unit off S.size inb).toLoadRect (View.write (Elt F) M.view f (ReadAs.same.apply (View.read (Elt F) M'.view g)) Finset.univ)
      = View.read (Elt F) M'.view g := by
  rw [View.readAt_full]
  exact View.read_write_univ _ _

/-- The query row of head `h`. -/
theorem q_read (fq : S32x1x16x128.Idx → F .f32) (f0 : qvM.view.ty.Contents (Elt F)) (n : ℕ) (hn : n < 16)
    (inb : ∀ a, (![0, 0, n, 0] : Fin 4 → ℕ) a + S32x1x1x128.size a ≤ S32x1x16x128.size a) :
    View.readAt (Elt F) qvM.view (Rect.unit (s := S32x1x16x128) ![0, 0, n, 0] S32x1x1x128.size inb).toLoadRect
        (View.write (Elt F) qvM.view f0 (ReadAs.same.apply (View.read (Elt F) qM.view fq)) Finset.univ)
      = qH fq ⟨n, hn⟩ := by
  funext i
  have e : (Rect.unit (s := S32x1x16x128) ![0, 0, n, 0] S32x1x1x128.size inb).toLoadRect.idx i = (ix4 (i 0) (i 1) ⟨n, hn⟩ (i 3) : S32x1x16x128.Idx) := by
    funext a
    apply Fin.ext
    match a with
    | ⟨0, _⟩ => show 0 + 1 * (i 0).val = (i 0).val; omega
    | ⟨1, _⟩ => show 0 + 1 * (i 1).val = (i 1).val; omega
    | ⟨2, _⟩ =>
      have h2 : (i 2).val < 1 := (i 2).isLt
      show n + 1 * (i 2).val = n; omega
    | ⟨3, _⟩ => show 0 + 1 * (i 3).val = (i 3).val; omega
  rw [View.readAt_apply, View.read_write_univ, e]
  rfl

/-- Head `h` of the keys after its transfer into slot `s`. -/
theorem k_read (M : Memref sig .tc .vmem S3x256x32x128 .f32) (fk : S256x32x16x128.Idx → F .f32) (N : Memref sig .tc .hbm S256x32x16x128 .f32)
    (gk : N.view.ty.Contents (Elt F)) (hgk : View.read (Elt F) N.view gk = fk) (f4 : M.view.ty.Contents (Elt F)) (s : ℕ) (n : ℕ) (hn : n < 16)
    (inb inb') (hr) (hq) (inbh) (hrh) (hqh) :
    View.readAt (Elt F) M.view (Rect.unit (s := S3x256x32x128) ![s, 0, 0, 0] S1x256x32x128.size inb).toLoadRect
        (View.write (Elt F) (slotM M s inb' hr hq).view f4
          (ReadAs.same.apply (View.read (Elt F) (headM N n inbh hrh hqh).view gk)) Finset.univ)
      = kH fk ⟨n, hn⟩ := by
  rw [slot_hit]
  funext i
  refine (head_read N ⟨n, hn⟩ inbh hrh hqh gk _).trans ?_
  rw [hgk]
  rfl

/-! ## The stores of the body -/

/-- The sum of weights put into column `n` of the table of sums. -/
theorem sum_step (fq : S32x1x16x128.Idx → F .f32) (fk : S256x32x16x128.Idx → F .f32) (w : FVec F S32x8192 .f32) (n : ℕ) (h : Fin 16) (hn : h.val = n)
    (k : BitVec 32) (hk : k.toNat = n) (prev : FVec F S32x16 .f32) (hprev : ∀ i : S32x16.Idx, (i 1).val < n → prev i = sumV fq fk w i)
    (hb hs1 hs2 hi hs3) (i : S32x16.Idx) (hlt : (i 1).val < n + 1) :
    shapeCast S32x16 (select (cmpi .eq (iota .tc S32x16 32 [1] hi) (broadcast S32x16 k))
        (broadcastTo S32x16 (shapeCast S32x1 (shapeCast S32x1 (sumH fq fk w h) hs1) hs2) hb) prev) hs3 i = sumV fq fk w i := by
  rw [shapeCast_self, shapeCast_self, select_apply]
  have hi1 : (i 1).val < 16 := (i 1).isLt
  have hc : cmpi .eq (iota .tc S32x16 32 [1] hi) (broadcast S32x16 k) i = IntOp.cmpi .eq (BitVec.ofNat 32 (i 1).val) k := by
    show IntOp.cmpi .eq (BitVec.ofNat 32 (0 * _ + (i 1).val)) k = _
    rw [Nat.zero_mul, Nat.zero_add]
  rw [hc]
  by_cases hin : (i 1).val = n
  · have hkk : BitVec.ofNat 32 (i 1).val = k := by
      apply BitVec.eq_of_toNat_eq
      rw [BitVec.toNat_ofNat, hk, hin]
      omega
    have hone : IntOp.cmpi .eq (BitVec.ofNat 32 (i 1).val) k = 1#1 := by simp [IntOp.cmpi, hkk]
    rw [hone, select_one, broadcastTo_apply _ hb i (ix2 (i 0) (0 : Fin 1)) (fun a => by
      match a with
      | ⟨0, _⟩ => rfl
      | ⟨1, _⟩ => rfl), shapeCast_apply _ hs1 _ (ix1 (i 0)) (by
        rw [Shape.rowMajor_val_one, Shape.rowMajor_val_two]
        show (i 0).val = (i 0).val * 1 + 0
        omega)]
    have hh : (i 1 : Fin 16) = h := Fin.ext (hin.trans hn.symm)
    show _ = sumH fq fk w (i 1) (ix1 (i 0))
    rw [hh]
  · have hkk : ¬ BitVec.ofNat 32 (i 1).val = k := fun e => hin (by
      have := congrArg BitVec.toNat e
      rw [BitVec.toNat_ofNat, hk] at this
      omega)
    have hzero : IntOp.cmpi .eq (BitVec.ofNat 32 (i 1).val) k = 0#1 := by
      show BitVec.ofBool (_ == k) = 0#1
      rw [beq_eq_false_iff_ne.mpr hkk]
      rfl
    rw [hzero, select_zero]
    exact hprev i (by omega)

/-- One piece of the table of weighted sums. -/
theorem acc_piece (fq : S32x1x16x128.Idx → F .f32) (fk fv : S256x32x16x128.Idx → F .f32) (w : FVec F S32x8192 .f32) (h : Fin 16)
    (inb : ∀ a, (![0, h.val, 0] : Fin 3 → ℕ) a + S32x1x128.size a ≤ S32x16x128.size a) (x : S32x1x128.Idx) :
    accH fq fk fv w h x = accV fq fk fv w ((Rect.unit (s := S32x16x128) ![0, h.val, 0] S32x1x128.size inb).emb x) := by
  have h1 : ((Rect.unit (s := S32x16x128) ![0, h.val, 0] S32x1x128.size inb).emb x 1 : Fin 16) = h := Fin.ext (by
    rw [Rect.emb_apply]
    have := (x 1).isLt
    have h2 : (x 1).val < 1 := (x 1).isLt
    show h.val + 1 * (x 1).val = h.val
    omega)
  have hx : x = ix3 ((Rect.unit (s := S32x16x128) ![0, h.val, 0] S32x1x128.size inb).emb x 0) (0 : Fin 1)
      ((Rect.unit (s := S32x16x128) ![0, h.val, 0] S32x1x128.size inb).emb x 2) := by
    funext a
    apply Fin.ext
    match a with
    | ⟨0, _⟩ => show (x 0).val = 0 + 1 * (x 0).val; omega
    | ⟨1, _⟩ =>
      have h2 : (x 1).val < 1 := (x 1).isLt
      show (x 1).val = 0; omega
    | ⟨2, _⟩ => show (x 2).val = 0 + 1 * (x 2).val; omega
  show _ = accH fq fk fv w _ _
  rw [h1]
  exact congrArg _ hx

/-- A piece of the table of weighted sums, from the loads it is computed of. -/
theorem acc_piece_of (fq : S32x1x16x128.Idx → F .f32) (fk fv : S256x32x16x128.Idx → F .f32) (w : FVec F S32x8192 .f32) (n : ℕ) (hn : n < 16)
    (inb : ∀ a, (![0, n, 0] : Fin 3 → ℕ) a + S32x1x128.size a ≤ S32x16x128.size a) (P : FVec F S32x1x128 .f32)
    (q : Vec F S32x1x1x128 .f32) (k v : Vec F S1x256x32x128 .f32) (w' : Vec F S32x8192 .f32) (hP : P = k0_pay6 q k v w')
    (hq : q = qH fq ⟨n, hn⟩) (hk : k = kH fk ⟨n, hn⟩) (hv : v = kH fv ⟨n, hn⟩) (hw : w' = w) (x : S32x1x128.Idx) :
    P x = accV fq fk fv w ((Rect.unit (s := S32x16x128) ![0, n, 0] S32x1x128.size inb).emb x) := by
  subst hP hq hk hv hw
  exact acc_piece fq fk fv w' ⟨n, hn⟩ inb x

/-- The pieces of the heads below `n + 1` cover the heads below `n + 1`. -/
theorem cover_step (n : ℕ) (inb : ∀ a, (![0, n, 0] : Fin 3 → ℕ) a + S32x1x128.size a ≤ S32x16x128.size a)
    (w : S32x1x128.Idx → F .f32) (L : List (View.Piece (Elt F) S32x16x128 .f32))
    (h : ∀ y : S32x16x128.Idx, (y 1).val < n → ∃ p ∈ L, y ∈ p.1.set) (y : S32x16x128.Idx) (hy : (y 1).val < n + 1) :
    ∃ p ∈ (⟨Rect.unit (s := S32x16x128) ![0, n, 0] S32x1x128.size inb, w⟩ : View.Piece (Elt F) S32x16x128 .f32) :: L, y ∈ p.1.set := by
  by_cases hn : (y 1).val = n
  · refine ⟨_, List.mem_cons_self, (LoadRect.mem_set _).mpr fun a => ?_⟩
    match a with
    | ⟨0, _⟩ => exact ⟨(y 0).val, (y 0).isLt, by show (y 0).val = 0 + 1 * (y 0).val; omega⟩
    | ⟨1, _⟩ => exact ⟨0, Nat.one_pos, by show (y 1).val = n + 1 * 0; omega⟩
    | ⟨2, _⟩ => exact ⟨(y 2).val, (y 2).isLt, by show (y 2).val = 0 + 1 * (y 2).val; omega⟩
  · obtain ⟨p, hp, hm⟩ := h y (by omega)
    exact ⟨p, List.mem_cons_of_mem _ hp, hm⟩

/-- The table of sums after a head, from the loads the head's sum is computed of and the table before it. -/
theorem sum_step_of (fq : S32x1x16x128.Idx → F .f32) (fk : S256x32x16x128.Idx → F .f32) (w : FVec F S32x8192 .f32) (n : ℕ) (hn : n < 16)
    (k : BitVec 32) (P prev : FVec F S32x16 .f32) (q : Vec F S32x1x1x128 .f32) (kk : Vec F S1x256x32x128 .f32) (w' : Vec F S32x8192 .f32)
    (hP : P = shapeCast S32x16 (select (cmpi .eq (iota .tc S32x16 32 [1] iota_S32x16_d1_w32) (broadcast S32x16 k))
        (broadcastTo S32x16 (shapeCast S32x1 (shapeCast S32x1
          (multiReduction .add [1] S32 (k0_pay5 q kk w') 0x00000000#32 reduces_S32x8192_S32 (.inl rfl) rfl) shapeCasts_S32_S32x1)
          shapeCasts_S32x1_S32x1) broadcasts_S32x1_S32x16) prev) shapeCasts_S32x16_S32x16)
    (hk : k.toNat = n) (hq : q = qH fq ⟨n, hn⟩) (hkk : kk = kH fk ⟨n, hn⟩) (hw : w' = w)
    (hprev : ∀ i : S32x16.Idx, (i 1).val < n → prev i = sumV fq fk w i) (i : S32x16.Idx) (hlt : (i 1).val < n + 1) :
    P i = sumV fq fk w i := by
  subst hP hq hkk hw
  exact sum_step fq fk w' n ⟨n, hn⟩ rfl k hk prev hprev _ _ _ _ _ i hlt

/-- A load of the table of sums after a store of the whole table. -/
theorem sum_load (G : S32x16.Idx → F .f32) (n : ℕ) (inb inb' : ∀ a, (![0, 0] : Fin 2 → ℕ) a + S32x16.size a ≤ S32x16.size a) (P : S32x16.Idx → F .f32)
    (L : List (View.Piece (Elt F) S32x16 .f32)) (h : ∀ i : S32x16.Idx, (i 1).val < n → P i = G i) (i : S32x16.Idx) (hi : (i 1).val < n) :
    lM.view.readCov ((⟨Rect.unit (s := S32x16) ![0, 0] S32x16.size inb, P⟩ : View.Piece (Elt F) S32x16 .f32) :: L)
      (Rect.unit (s := S32x16) ![0, 0] S32x16.size inb').toLoadRect i = G i := by
  rw [View.readCov_full]
  exact h i hi

/-- What the two tables hold at the end. -/
theorem acc_in (c : Dev nD) (G : S32x16x128.Idx → F .f32) (f : Bf (F := F) c accM) (L : List (View.Piece (Elt F) S32x16x128 .f32))
    (hL : ∀ p ∈ L, ∀ x, p.2 x = G (p.1.emb x)) (hC : ∀ y, (y 1).val < 16 → ∃ p ∈ L, y ∈ p.1.set) :
    pt c accM (accM.view.writes (Elt F) f L) ⊢ (pt c accM G : sProp 𝕄) :=
  Entails.of_eq (congrArg (pt c accM) (funext fun y => View.read_writes_apply_of_pieces accM.view f G L hL y (hC y (y 1).isLt)))

theorem sum_in (c : Dev nD) (G : S32x16.Idx → F .f32) (f : Bf (F := F) c lM) (inb : ∀ a, (![0, 0] : Fin 2 → ℕ) a + S32x16.size a ≤ S32x16.size a)
    (P : S32x16.Idx → F .f32) (L : List (View.Piece (Elt F) S32x16 .f32)) (h : ∀ i : S32x16.Idx, (i 1).val < 16 → P i = G i) :
    pt c lM (lM.view.writes (Elt F) f (⟨Rect.unit (s := S32x16) ![0, 0] S32x16.size inb, P⟩ :: L)) ⊢ (pt c lM G : sProp 𝕄) :=
  Entails.of_eq (congrArg (pt c lM) ((View.read_writes_full lM.view f inb P L).trans (funext fun i => h i (i 1).isLt)))

end Cert.KernelIdeal.Paged

end
-- ==== Proof.Protocol.lean ====
/-
The exchange between a device and its peer: the peer, the five semaphore cells a device takes part in with, what each
signal hands over, and what each device owes at the start.
-/
module

public import proofs.«01_k».proof.Proof.Heads

@[expose] public section

noncomputable section

namespace Cert.KernelIdeal.Paged

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The peer -/

set_option backward.proofsInPublic true in
/-- The device with the other half of the pages: the other one along the mesh's second axis. -/
def peer (c : Dev nD) : Dev nD :=
  ⟨8 * (c.val / 8) + c.val % 4 + 4 - 4 * (c.val / 4 % 2), by revert c; decide⟩

theorem peer_peer (c : Dev nD) : peer (peer c) = c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

/-- Taking the peer, as a permutation of the devices. -/
def swap : Dev nD ≃ Dev nD := ⟨peer, peer, peer_peer, peer_peer⟩

/-! ## Contents -/

/-- The half of the pages a device holds, as the word the kernel computes. -/
def yw (c : Dev nD) : BitVec 32 := Scalar.remsi (Scalar.divsi (Dev.word c) 4#32) 2#32

/-- The weights of device `c`'s table entries, -/
def wF (c : Dev nD) : FVec F S32x8192 .f32 :=
  wv (yw c) (m ((c : Thread nD τ).loc main_arg3)) (m ((c : Thread nD τ).loc main_arg4))
/-- its share of the weighted sums of values, -/
def accF (c : Dev nD) : S32x16x128.Idx → F .f32 :=
  accV (m ((c : Thread nD τ).loc main_arg0)) (m ((c : Thread nD τ).loc main_arg1)) (m ((c : Thread nD τ).loc main_arg2)) (wF m c)
/-- and of the sums of weights. -/
def sumF (c : Dev nD) : S32x16.Idx → F .f32 :=
  sumV (m ((c : Thread nD τ).loc main_arg0)) (m ((c : Thread nD τ).loc main_arg1)) (wF m c)

/-! ## The cells -/

abbrev barS : Sem sig := (SemArray.scalar (sig.barrier 0 rfl) : Sems sig S_).sem

/-- The semaphores of the exchange: the barrier; the two send semaphores; the two receive semaphores. -/
def csem : Fin 5 → SemLoc sig
  | 0 => .reg barS | 1 => .dma 10 | 2 => .dma 11 | 3 => .dma 12 | 4 => .dma 13
abbrev cell (c : Dev nD) (k : Fin 5) : GSem nD τ sig := ((c : Thread nD τ), csem k)

/-- Which of them a semaphore is. -/
def kind (s : SemLoc sig) : Option (Fin 5) :=
  if s = csem 0 then some 0 else if s = csem 1 then some 1 else if s = csem 2 then some 2
  else if s = csem 3 then some 3 else if s = csem 4 then some 4 else none

theorem csem_inj : ∀ k k' : Fin 5, csem k = csem k' → k = k' := by decide
theorem kind_csem : ∀ k : Fin 5, kind (csem k) = some k := by decide

theorem cell_inj {c c' : Dev nD} {k k' : Fin 5} (h : cell c k = cell c' k') : c = c' ∧ k = k' :=
  ⟨congrArg (fun g : GSem nD τ sig => g.1.1) h, csem_inj _ _ (congrArg Prod.snd h)⟩

/-- The units of one signal: one at the barrier, the bytes' credit of the copied buffer elsewhere. -/
def amt : Fin 5 → ℕ
  | 0 => 1
  | 1 => (accM : Memref sig .tc .vmem S32x16x128 .f32).view.dmaCredit
  | 2 => (lM : Memref sig .tc .vmem S32x16 .f32).view.dmaCredit
  | 3 => (raccM : Memref sig .tc .vmem S32x16x128 .f32).view.dmaCredit
  | 4 => (rlM : Memref sig .tc .vmem S32x16 .f32).view.dmaCredit

theorem amt_pos (k : Fin 5) : 0 < amt k := by
  fin_cases k
  · exact Nat.one_pos
  all_goals exact View.dmaCredit_pos _ (by decide)

/-- A buffer at contents nobody states. -/
def held (c : Dev nD) {sp : Space} {S : Shape} {e : EltTy} (M : Memref sig .tc sp S e) : sProp 𝕄 := iprop(∃ f, pt c M f)
instance held_storable (c : Dev nD) {sp : Space} {S : Shape} {e : EltTy} (M : Memref sig .tc sp S e) : BI.Storable (upEmb : UEmb _ 𝕄) (held c M) := by
  unfold held; infer_instance

/-- What one signal hands to device `c`: at the barrier its peer's two landing buffers; at a send semaphore the buffer it sent; at a
    receive semaphore its landing buffer with the peer's sums. -/
def pay (c : Dev nD) : Fin 5 → sProp 𝕄
  | 0 => iprop(held (peer c) raccM ∗ held (peer c) rlM)
  | 1 => pt c accM (accF m c)
  | 2 => pt c lM (sumF m c)
  | 3 => pt c raccM (accF m (peer c))
  | 4 => pt c rlM (sumF m (peer c))

instance pay_storable (c : Dev nD) (k : Fin 5) : BI.Storable (upEmb : UEmb _ 𝕄) (pay m c k) := by
  fin_cases k <;> (dsimp only [pay]; infer_instance)

/-- One round at each cell, with one signal. -/
def rd : Rounds.Schedule (GSem nD τ sig) Unit 𝕄 where
  duties g r := if r = 0 ∧ g.1.2 = .tc ∧ (kind g.2).isSome then {()} else ∅
  amount g _ _ := match kind g.2 with | some k => amt k | none => 1
  payload g _ _ := match kind g.2 with | some k => pay m g.1.1 k | none => iprop(emp)
  unitless _ := False
  amount_pos g _ _ _ := by
    cases kind g.2 with
    | none => exact Nat.one_pos
    | some k => exact amt_pos k

instance rd_payload_storable (g : GSem nD τ sig) (r : ℕ) (d : Unit) :
    BI.Storable (upEmb : UEmb _ 𝕄) ((rd (F := F) m).payload g r d) := by
  show BI.Storable upEmb (match kind g.2 with | some k => pay m g.1.1 k | none => iprop(emp))
  cases kind g.2 <;> (dsimp only; infer_instance)

section Sched
variable (c : Dev nD) (k : Fin 5)

theorem duties_cell : (rd (F := F) m).duties (cell c k) 0 = {()} :=
  if_pos ⟨rfl, rfl, by show (kind (csem k)).isSome = true; rw [kind_csem]; rfl⟩
theorem mem_duties : () ∈ (rd (F := F) m).duties (cell c k) 0 := by
  rw [duties_cell]; exact Finset.mem_singleton_self _
theorem duties_later (g : GSem nD τ sig) : ∀ r, 1 ≤ r → (rd (F := F) m).duties g r = ∅ :=
  fun r hr => if_neg fun h => by omega
theorem amount_cell (d : Unit) : (rd (F := F) m).amount (cell c k) 0 d = amt k := by
  show (match kind (csem k) with | some k => amt k | none => 1) = amt k
  rw [kind_csem]
theorem payload_cell (d : Unit) : (rd (F := F) m).payload (cell c k) 0 d = pay m c k := by
  show (match kind (csem k) with | some k => pay m c k | none => iprop(emp)) = pay m c k
  rw [kind_csem]
theorem expect_cell : (rd (F := F) m).expect (cell c k) 0 = amt k := by
  unfold Schedule.expect Schedule.amountOf
  rw [duties_cell, Finset.sum_singleton, amount_cell]
/-- What is left of a cell's round when nothing is taken yet. -/
theorem rest_cell : bigSep ((rd (F := F) m).duties (cell c k) 0 \ ∅) (fun d => (rd (F := F) m).payload (cell c k) 0 d) = pay m c k := by
  rw [Finset.sdiff_empty, duties_cell, bigSep_singleton, payload_cell]

end Sched

/-! ## What each device owes, and the levels -/

/-- After the signal and the copy of the values' sums only the copy of the weights' sums is owed, -/
def O₂ (c : Dev nD) : CellTallies nD τ sig Unit := tallyAt (cell (peer c) 4) () (amt 4)
/-- after the signal both copies, -/
def O₁ (c : Dev nD) : CellTallies nD τ sig Unit := O₂ c + tallyAt (cell (peer c) 3) () (amt 3)
/-- at the start the signal too. -/
def O₀ (c : Dev nD) : CellTallies nD τ sig Unit := O₁ c + tallyAt (cell (peer c) 0) () (amt 0)

def L (g : GSem nD τ sig) : Finset Unit := if g.1.2 = .tc then {()} else ∅
/-- The barrier at level 1, the receive semaphores at 2, all others at 0. -/
def lvl : Option (Fin 5) → ℕ
  | some 0 => 1 | some 3 => 2 | some 4 => 2 | _ => 0
def lv (g : GSem nD τ sig) (_ : Unit) : ℕ := lvl (kind g.2)

theorem L_of_ne (g : GSem nD τ sig) (h : g.1.2 ≠ .tc) : L g = ∅ := if_neg h
theorem L_tc (c : Dev nD) (s : SemLoc sig) : L ((c : Thread nD τ), s) = {()} := if_pos rfl
theorem mem_L (c : Dev nD) (s : SemLoc sig) (u : Unit) : u ∈ L ((c : Thread nD τ), s) := by
  rw [L_tc]; exact Finset.mem_singleton_self _
theorem lv_cell (c : Dev nD) (k : Fin 5) (u : Unit) : lv (cell c k) u = lvl (some k) := by
  show lvl (kind (csem k)) = _
  rw [kind_csem]

/-- A unit owed at some cell of a sum is owed in one of the summands. -/
theorem owed_add {A B : CellTallies nD τ sig Unit} {g : GSem nD τ sig} {u : Unit} (h : 0 < (A + B) g u) : 0 < A g u ∨ 0 < B g u := by
  rw [Pi.add_apply, Finsupp.add_apply] at h
  omega
theorem owed_at {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem O₁_pos {c : Dev nD} {g : GSem nD τ sig} {u : Unit} (h : 0 < O₁ c g u) : g = cell (peer c) 4 ∨ g = cell (peer c) 3 := by
  rcases owed_add h with h | h
  · exact Or.inl (owed_at h)
  · exact Or.inr (owed_at h)
theorem O₀_pos {c : Dev nD} {g : GSem nD τ sig} {u : Unit} (h : 0 < O₀ c g u) :
    g = cell (peer c) 4 ∨ g = cell (peer c) 3 ∨ g = cell (peer c) 0 := by
  rcases owed_add h with h | h
  · rcases O₁_pos h with h | h
    · exact Or.inl h
    · exact Or.inr (Or.inl h)
  · exact Or.inr (Or.inr (owed_at h))

/-- A device may wait at a semaphore of level 0 whatever it owes of the exchange, -/
theorem mayWait_low (c : Dev nD) (s : SemLoc sig) (hs : lvl (kind s) = 0) :
    (levAts L lv : sProp 𝕄) ⊢ MayWait (c : Thread nD τ) s () (O₀ c) :=
  MayOwe.of_cut (L := L) (lev := lv) 0 (fun p hp => by rw [Finset.mem_singleton.mp hp]; exact mem_L c s _)
    (fun g u hg => by rcases O₀_pos hg with rfl | rfl | rfl <;> exact mem_L _ _ _)
    (fun p hp => by rw [Finset.mem_singleton.mp hp]; exact hs.le)
    (fun g u hg => by rcases O₀_pos hg with rfl | rfl | rfl <;> (rw [lv_cell]; decide))

/-- and at its barrier when it owes the two copies. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp]; exact mem_L c _ _)
    (fun g u hg => by rcases O₁_pos hg with rfl | rfl <;> exact mem_L _ _ _)
    (fun p hp => by rw [Finset.mem_singleton.mp hp]; exact (lv_cell c 0 ()).le)
    (fun g u hg => by rcases O₁_pos hg with rfl | rfl <;> (rw [lv_cell]; decide))

theorem low_dma : ∀ q : DmaSem sig, q.val < 12 → lvl (kind (.dma q)) = 0 := by decide

end Cert.KernelIdeal.Paged

end
-- ==== Proof.Exchange.lean ====
/-
The kernel's body on one device: the sixteen heads over its own pages, the exchange of the sums with its peer, and the
division.
-/
module

public import proofs.«01_k».proof.Proof.Protocol

@[expose] public section

noncomputable section

namespace Cert.KernelIdeal.Paged

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The state between the steps -/

/-- The invariants of all cells, under the names `K`, and that each is at its round. -/
def records (K : Dev nD × Fin 5 → ℕ) : sProp 𝕄 :=
  iprop((bigSep Finset.univ fun ck : Dev nD × Fin 5 => cellInv ER (rd m) (K ck) (cell ck.1 ck.2))
    ∗ bigSep Finset.univ fun ck : Dev nD × Fin 5 => reached ER (cell ck.1 ck.2) 0)

instance records_persistent (K : Dev nD × Fin 5 → ℕ) : BI.Persistent (records m K) := by unfold records; infer_instance

theorem inv_at (K : Dev nD × Fin 5 → ℕ) (c : Dev nD) (k : Fin 5) :
    records m K ⊢ cellInv ER (rd m) (K (c, k)) (cell c k) := by
  unfold records
  exact (sep_elim_left).trans (bigSep_elim (Finset.mem_univ (c, k)))
theorem reached_at (K : Dev nD × Fin 5 → ℕ) (c : Dev nD) (k : Fin 5) :
    records m K ⊢ (reached ER (cell c k) 0 : sProp 𝕄) := by
  unfold records
  exact (sep_elim_right).trans (bigSep_elim (Finset.mem_univ (c, k)))

/-- Whose cell device `c`'s signal of each kind goes to: its own for the sent buffer, its peer's otherwise. -/
def tgt (c : Dev nD) : Fin 5 → Dev nD
  | 1 => c | 2 => c | _ => peer c

/-- The right to give each of those signals, -/
def payToks (c : Dev nD) : sProp 𝕄 :=
  iprop(dutyTok ER (cell (peer c) 0) 0 () ∗ dutyTok ER (cell c 1) 0 () ∗ dutyTok ER (cell c 2) 0 ()
    ∗ dutyTok ER (cell (peer c) 3) 0 () ∗ dutyTok ER (cell (peer c) 4) 0 ())
/-- and its position at each of its own cells. -/
def positions (c : Dev nD) : sProp 𝕄 :=
  iprop(atPos ER (cell c 0) 0 ∅ 0 ∗ atPos ER (cell c 1) 0 ∅ 0 ∗ atPos ER (cell c 2) 0 ∅ 0
    ∗ atPos ER (cell c 3) 0 ∅ 0 ∗ atPos ER (cell c 4) 0 ∅ 0)

/-- The semaphores of the copies a device makes for itself. -/
def locals (c : Dev nD) : sProp 𝕄 :=
  iprop((semVal ((c : Thread nD τ), .dma 1) 0 ∗ semVal ((c : Thread nD τ), .dma 2) 0 ∗ semVal ((c : Thread nD τ), .dma 3) 0)
    ∗ (semVal ((c : Thread nD τ), .dma 4) 0 ∗ semVal ((c : Thread nD τ), .dma 5) 0 ∗ semVal ((c : Thread nD τ), .dma 6) 0)
    ∗ (semVal ((c : Thread nD τ), .dma 7) 0 ∗ semVal ((c : Thread nD τ), .dma 8) 0 ∗ semVal ((c : Thread nD τ), .dma 9) 0))

/-- The five arguments, at what they held before the run. -/
def args (c : Dev nD) : sProp 𝕄 :=
  iprop(pt c qM (m ((c : Thread nD τ).loc main_arg0)) ∗ pt c kM (m ((c : Thread nD τ).loc main_arg1)) ∗ pt c vM (m ((c : Thread nD τ).loc main_arg2))
    ∗ pt c btM (m ((c : Thread nD τ).loc main_arg3)) ∗ pt c lensM (m ((c : Thread nD τ).loc main_arg4)))

def ghost (K : Dev nD × Fin 5 → ℕ) (c : Dev nD) : sProp 𝕄 := iprop(records m K ∗ positions c ∗ payToks c)

/-- What a device has at the start: all that, and the right to wait for what its peer owes it. -/
def start (c : Dev nD) : sProp 𝕄 :=
  iprop((∃ K, ghost m K c) ∗ locals c ∗ args m c
    ∗ cred (tallyAt (cell c 0) () (amt 0)) ∗ cred (tallyAt (cell c 3) () (amt 3)) ∗ cred (tallyAt (cell c 4) () (amt 4)) ∗ levAts L lv)

/-- The semaphores scoped to the call, by number. -/
abbrev osem : Fin 13 → SemLoc sig := fun k => .dma ⟨k.val + 1, by have := k.isLt; show k.val + 1 < 14; omega⟩

/-- The scratch buffers, at some contents. -/
def scratch (c : Dev nD) : sProp 𝕄 :=
  iprop(held c qvM ∗ held c btvM ∗ held c lensvM ∗ held c wM ∗ held c kbM ∗ held c vbM ∗ held c accM ∗ held c lM ∗ held c raccM ∗ held c rlM)
theorem scratch_eq (c : Dev nD) : (Pipeline.scopedRest cfg0.spec c : sProp 𝕄) = scratch c := scopedRest0_eq c

def Φ₀ (c : Dev nD) : sProp 𝕄 := iprop(start m c ∗ scratch c)
/-- At the end: the arguments unchanged, all semaphores at zero again, the scratch buffers at some contents. -/
def Φ₁ (c : Dev nD) : sProp 𝕄 :=
  iprop((args m c ∗ unscopedSems0 c) ∗ Pipeline.ownSems0 osem c ∗ scratch c)

/-- The result: the quotient of the sums over both halves. -/
def outAt (c : Dev nD) : (cc0_stg0_0 : Ref sig .tc).ty.Contents (Elt F) :=
  k0_pay1 (k0_pay77 (sumF m c) (sumF m (peer c)) (accF m c) (accF m (peer c)))

def dats (_ : Fin 1) (c : Dev nD) : Dat τ (Elt F) Unit ℕ UU ℕ cfg0 c where
  A w := m ((cfg0.win w).arr.view.loc (c : Thread nD τ))
  after w _ := match w with
    | ⟨0, _⟩ => outAt m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

theorem ownSems0_eq (c : Dev nD) : (Pipeline.ownSems0 (Ix := Unit) (Name := ℕ) (U := UU) (Lvl := ℕ) (Val := Elt F) (τ := τ) osem c : sProp 𝕄)
    = iprop(semVal ((c : Thread nD τ), .dma 1) 0 ∗ semVal ((c : Thread nD τ), .dma 2) 0 ∗ semVal ((c : Thread nD τ), .dma 3) 0
      ∗ semVal ((c : Thread nD τ), .dma 4) 0 ∗ semVal ((c : Thread nD τ), .dma 5) 0 ∗ semVal ((c : Thread nD τ), .dma 6) 0
      ∗ semVal ((c : Thread nD τ), .dma 7) 0 ∗ semVal ((c : Thread nD τ), .dma 8) 0 ∗ semVal ((c : Thread nD τ), .dma 9) 0
      ∗ semVal (cell c 1) 0 ∗ semVal (cell c 2) 0 ∗ semVal (cell c 3) 0 ∗ semVal (cell c 4) 0) := by
  rw [Pipeline.ownSems0_eq_of_list c osem [0, 1, 2, 3, 4, 5, 6, 7, 8, 9, 10, 11, 12] (by decide) (by decide)]; rfl
theorem unscopedSems0_eq (c : Dev nD) : (unscopedSems0 c : sProp 𝕄) = semVal (cell c 0) 0 := by
  unfold unscopedSems0; rw [bigSep_eq_bigSepL_of_eq [SemLoc.reg barS] (by decide) (by decide)]; rfl

/-! ## The steps of the exchange -/

abbrev r2 : Rect S32x16 := Rect.unit (s := S32x16) ![0, 0] S32x16.size inb_S32x16_S32x16_0_0
abbrev r3 : Rect S32x16x128 := Rect.unit (s := S32x16x128) ![0, 0, 0] S32x16x128.size inb_S32x16x128_S32x16x128_0_0_0
abbrev r4 : Rect S32x1x16x128 := Rect.unit (s := S32x1x16x128) ![0, 0, 0, 0] S32x1x16x128.size inb_S32x1x16x128_S32x1x16x128_0_0_0_0

theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

theorem read_l (f : S32x16.Idx → F .f32) : (lM : Memref sig .tc .vmem S32x16 .f32).view.readAt (Elt F) r2.toLoadRect f = f :=
  Memref.readAt_unit_zero (Elt F) cc0_scratch7 hz2 _ f
theorem read_rl (f : S32x16.Idx → F .f32) : (rlM : Memref sig .tc .vmem S32x16 .f32).view.readAt (Elt F) r2.toLoadRect f = f :=
  Memref.readAt_unit_zero (Elt F) cc0_scratch9 hz2 _ f
theorem read_acc (f : S32x16x128.Idx → F .f32) : (accM : Memref sig .tc .vmem S32x16x128 .f32).view.readAt (Elt F) r3.toLoadRect f = f :=
  Memref.readAt_unit_zero (Elt F) cc0_scratch6 hz3 _ f
theorem read_racc (f : S32x16x128.Idx → F .f32) : (raccM : Memref sig .tc .vmem S32x16x128 .f32).view.readAt (Elt F) r3.toLoadRect f = f :=
  Memref.readAt_unit_zero (Elt F) cc0_scratch8 hz3 _ f
theorem write_out (f w : (cc0_stg0_0 : Ref sig .tc).ty.Contents (Elt F)) :
    ((oM : Memref sig .tc .vmem S32x1x16x128 .f32).access r4 : View sig .tc _ _ _).write (Elt F) f w Finset.univ = w :=
  Memref.write_access_unit_zero_univ (Elt F) cc0_stg0_0 hz4 _ f w

/-- The signal to the peer's barrier hands it the two landing buffers. -/
theorem signal_peer (K : Dev nD × Fin 5 → ℕ) (c n : Dev nD) (hn : n = peer c) (s : Sem sig) (hs : s = barS) (z : ℤ) (hz : z = 1)
    {α : Type} {Q : α → sProp 𝕄} {k : PUnit → Prog (TpuEff nD τ sig (Elt F) Λ₀ .tc) α} (W : Waits sig Unit) :
    iprop(records m K ∗ owes (c : Thread nD τ) (O₀ c) W ∗ dutyTok ER (cell (peer c) 0) 0 () ∗ held c raccM ∗ held c rlM)
      ⊢ iprop((owes (c : Thread nD τ) (O₁ c) W -∗ wp frame (wpE (defs₀ (F := F)) Variants.none (c : Thread nD τ) none) Set.univ (k ⟨⟩) Q)
          -∗ wp frame (wpE (defs₀ (F := F)) Variants.none (c : Thread nD τ) none) Set.univ
              (.op (.semSignal (Dev.tc n : Thread nD τ) s z) k) Q) := by
  subst hn hs hz
  iintro ⟨#HR, HO, Ht, H8, H9⟩
  iapply (Rounds.wp_signal Variants.none ER (rd m) (c : Thread nD τ) none (dst := (peer c : Thread nD τ)) (κ := K (peer c, 0)) (r := 0)
      (d := ()) (k' := 1) (mem_duties m (peer c) 0) (amount_cell m (peer c) 0 ()) () (O₁ c) rfl)
  isplitr; · iapply (inv_at m K (peer c) 0); iexact HR
  isplitl [HO]; · iexact HO
  isplitl [Ht]; · iexact Ht
  isplitl [H8 H9]
  · rw [show (rd (F := F) m).payload ((peer c : Thread nD τ), .reg barS) 0 () = _ from payload_cell m (peer c) 0 ()]
    dsimp only [pay]
    rw [peer_peer]
    isplitl [H8] <;> iassumption
  iapply (reached_at m K (peer c) 0); iexact HR

/-- A wait for the one signal of a cell: its payload, and the cell's counter at zero for good. -/
theorem wait_cell (K : Dev nD × Fin 5 → ℕ) (c : Dev nD) (j : Fin 5) {w : TpuEff nD τ sig (Elt F) Λ₀ .tc PUnit}
    (hw : ∀ K' : PUnit → sProp 𝕄, wpE (defs₀ (F := F)) Variants.none (c : Thread nD τ) none Set.univ w K' = waitSpec (c : Thread nD τ) Set.univ (csem j) (amt j) K')
    {α : Type} {Q : α → sProp 𝕄} {k : PUnit → Prog (TpuEff nD τ sig (Elt F) Λ₀ .tc) α} (O : CellTallies nD τ sig Unit) (W : Waits sig Unit)
    (hO : (levAts L lv : sProp 𝕄) ⊢ MayWait (c : Thread nD τ) (csem j) () O) :
    iprop(records m K ∗ levAts L lv ∗ cred (tallyAt (cell c j) () (amt j)) ∗ owes (c : Thread nD τ) O W ∗ atPos ER (cell c j) 0 ∅ 0)
      ⊢ iprop(((owes (c : Thread nD τ) O (insert (csem j, ()) W) ∗ semVal (cell c j) 0 ∗ pay m c j)
            -∗ wp frame (wpE (defs₀ (F := F)) Variants.none (c : Thread nD τ) none) Set.univ (k ⟨⟩) Q)
          -∗ wp frame (wpE (defs₀ (F := F)) Variants.none (c : Thread nD τ) none) Set.univ (.op w k) Q) := by
  iintro ⟨#HR, #Hlev, Hc, HO, Hat⟩ Hk
  iapply (Rounds.wp_wait_rest_token Variants.none ER (rd m) (c : Thread nD τ) none (κ := K (c, j)) hw (Set.mem_univ _) () (O := O) (W := W)
      (R := 0) (m := 0) (T := ∅) (by rw [Nat.zero_add]; exact (expect_cell m c j).symm)) $$ [Hc HO Hat]
  · isplitr; · iapply (inv_at m K c j); iexact HR
    isplitl [Hc]; · iexact Hc
    isplitl [HO]; · iexact HO
    isplitr; · iapply hO; iexact Hlev
    iexact Hat
  iintro ⟨HO, Hat, -, Hpay⟩
  ihave Hp := (Entails.of_eq (rest_cell m c j)) $$ Hpay
  imod (Rounds.cell_close ER (rd m) (Set.mem_univ (K (c, j))) (fun h => h) (R := 0 + 1) (duties_later m (cell c j))) $$ [Hat] with Hz
  · isplitr; · iapply (inv_at m K c j); iexact HR
    iexact Hat
  iapply Hk
  isplitl [HO]; · iexact HO
  isplitl [Hz] <;> iassumption

/-- A copy to the peer pays a duty of the device's own send cell and one of the peer's receive cell. -/
theorem send_peer (K : Dev nD × Fin 5 → ℕ) (c n : Dev nD) (hn : n = peer c) {S : Shape} (src dst : Memref sig .tc .vmem S .f32) (j j' : Fin 5)
    {s s' : SemLoc sig} (hs : s = csem j) (hs' : s' = csem j')
    {hsc : (dst : Memref sig (Dev.tc n : Thread nD τ).2.kind .vmem S .f32).view.ref.isScScratch = false}
    {hsrc : src.view.WordExact} {hdst : dst.view.WordExact}
    {hsem : DmaTarget.Typed .vmem s' (.remote (Dev.tc n : Thread nD τ) (dst : Memref sig (Dev.tc n : Thread nD τ).2.kind .vmem S .f32) s hsc)}
    (hN : dst.view.amount s' = amt j) (hj : amt j' = amt j)
    (hsw : src.view.set = Finset.univ) (hdw : dst.view.set = Finset.univ)
    {α : Type} {Q : α → sProp 𝕄} {k : PUnit → Prog (TpuEff nD τ sig (Elt F) Λ₀ .tc) α}
    (fs : Bf (F := F) c src)
    (hpay : pt c src fs ⊢ pay m c j)
    (hpay' : ∀ fd : Bf (F := F) (peer c) dst, pt (peer c) dst (dst.view.write (Elt F) fd (src.view.read (Elt F) fs) Finset.univ) ⊢ pay m (peer c) j')
    (O O' : CellTallies nD τ sig Unit) (hO : O = O' + tallyAt (cell (peer c) j') () (amt j')) (W : Waits sig Unit) :
    iprop(records m K ∗ pt c src fs ∗ held (peer c) dst ∗ owes (c : Thread nD τ) O W
        ∗ dutyTok ER (cell c j) 0 () ∗ dutyTok ER (cell (peer c) j') 0 ())
      ⊢ iprop(((cred (tallyAt (cell c j) () (amt j)) ∗ owes (c : Thread nD τ) O' W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc n : Thread nD τ) dst s hsc) s' hsrc hdst hsem) k) Q) := by
  subst hn hs hs'
  have hO' : O = O' + tallyAt (cell (peer c) j') () (amt j) := by rw [hO, hj]
  unfold held
  iintro ⟨#HR, Hs, ⟨%fd, Hd⟩, HO, Ht, Ht'⟩
  iapply (Rounds.wp_send_pointsTo Variants.none ER (rd m) (c : Thread nD τ) none (κ₁ := K (c, j)) (κ₂ := K (peer c, j')) (q := fullShare)
    (fs := fs) (fd := fd) (r₁ := 0) (r₂ := 0) (d₁ := ()) (d₂ := ()) (mem_duties m c j) (mem_duties m (peer c) j')
    () () (amt j) hN (amount_cell m c j ()) ((amount_cell m (peer c) j' ()).trans hj) O' hO' (W := W)
    (by rw [hsw]; exact hpay.trans (Entails.of_eq (payload_cell m c j ()).symm))
    (by rw [hdw]; exact (hpay' fd).trans (Entails.of_eq (payload_cell m (peer c) j' ()).symm)))
  isplitr; · iapply (inv_at m K c j); iexact HR
  isplitr; · iapply (inv_at m K (peer c) j'); iexact HR
  isplitl [Hs]; · rw [hsw]; iexact Hs
  isplitl [Hd]; · rw [hdw]; iexact Hd
  isplitl [HO]; · iexact HO
  isplitl [Ht]; · iexact Ht
  isplitr; · iapply (reached_at m K c j); iexact HR
  isplitl [Ht']; · iexact Ht'
  iapply (reached_at m K (peer c) j'); iexact HR

/-- The end of a part of the program. -/
theorem wp_end (c : Dev nD) {α : Type} {Q : α → sProp 𝕄} (a : α) :
    Q a ⊢ wp frame (wpE (defs₀ (F := F)) Variants.none (c : Thread nD τ) none) Set.univ (.ret a) Q := by
  rw [wp_ret]; iintro H; imodintro; iexact H

/-- The end of a part of the program that goes on. -/
theorem wp_seq (c : Dev nD) {α β : Type} {Q : β → sProp 𝕄} (a : α) (k : α → Prog (TpuEff nD τ sig (Elt F) Λ₀ .tc) β) :
    wp frame (wpE (defs₀ (F := F)) Variants.none (c : Thread nD τ) none) Set.univ (k a) Q
      ⊢ wp frame (wpE (defs₀ (F := F)) Variants.none (c : Thread nD τ) none) Set.univ (.ret a)
          (fun b => wp frame (wpE (defs₀ (F := F)) Variants.none (c : Thread nD τ) none) Set.univ (k b) Q) :=
  wp_end c (Q := fun b => wp frame (wpE (defs₀ (F := F)) Variants.none (c : Thread nD τ) none) Set.univ (k b) Q) a

/-- What a device has waited for may be forgotten. -/
theorem owes_some (c : Dev nD) (O : CellTallies nD τ sig Unit) (W : Waits sig Unit) :
    (owes (c : Thread nD τ) O W : sProp 𝕄) ⊢ iprop(∃ W', owes (c : Thread nD τ) O W') := by
  iintro H; iexists W; iexact H

/-- What lands in a whole buffer copied from a whole buffer of the same shape. -/
theorem landed_acc (c : Dev nD) (fd f : S32x16x128.Idx → F .f32) :
    (raccM : Memref sig .tc .vmem S32x16x128 .f32).view.write (Elt F) fd ((accM : Memref sig .tc .vmem S32x16x128 .f32).view.read (Elt F) f) Finset.univ = f := by
  show (View.whole cc0_scratch8).write (Elt F) fd ((View.whole cc0_scratch6).read (Elt F) f) Finset.univ = f
  rw [View.read_whole]
  exact View.write_whole_univ _ _ _
theorem landed_l (c : Dev nD) (fd f : S32x16.Idx → F .f32) :
    (rlM : Memref sig .tc .vmem S32x16 .f32).view.write (Elt F) fd ((lM : Memref sig .tc .vmem S32x16 .f32).view.read (Elt F) f) Finset.univ = f := by
  show (View.whole cc0_scratch9).write (Elt F) fd ((View.whole cc0_scratch7).read (Elt F) f) Finset.univ = f
  rw [View.read_whole]
  exact View.write_whole_univ _ _ _

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 5 → ℕ) (c : Dev nD) : sProp 𝕄 :=
  iprop(ghost m K c ∗ locals c ∗ args m c
    ∗ (cred (tallyAt (cell c 0) () (amt 0)) ∗ cred (tallyAt (cell c 3) () (amt 3)) ∗ cred (tallyAt (cell c 4) () (amt 4))) ∗ levAts L lv
    ∗ scratch c
    ∗ (dats m 0 c).owesAt () t0_0.castSucc ∗ held c oM)

def bodyPost (c : Dev nD) : sProp 𝕄 :=
  iprop(Φ₁ m c ∗ (dats m 0 c).owesAt () t0_0.succ ∗ stg c cc0_stg0_0 (outAt m c))

end Cert.KernelIdeal.Paged

end
-- ==== Proof.Body.lean ====
/-
The kernel's body on one device, run in program order: the sixteen heads over its own pages, the exchange of the sums with
its peer, and the division.
-/
module

public import proofs.«01_k».proof.Proof.Exchange

@[expose] public section

noncomputable section

namespace Cert.KernelIdeal.Paged

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The state between the steps -/

set_option sl_exec.dmaWindow true
set_option maxHeartbeats 4000000 in
/-- The body run in program order. -/
theorem sound_body (K : Dev nD × Fin 5 → ℕ) (c : Dev nD) (Kt : PUnit → sProp 𝕄) :
    iprop(bodyPre m K c ∗ (bodyPost m c -∗ Kt ⟨⟩))
      ⊢ wp frame (wpE (defs₀ (F := F)) Variants.none c none) Set.univ (bodyAt0 t0_0) Kt := by
  have hmw : ∀ q : DmaSem sig, q.val < 12 → ((levAts L lv : sProp 𝕄) ⊢ MayWait (c : Thread nD τ) (.dma q) () (O₀ c)) :=
    fun q hq => mayWait_low c _ (low_dma q hq)
  unfold bodyPre ghost positions payToks locals args scratch held Dat.owesAt Pipeline.owesWithin
  rw [show (dats m 0 c).owed t0_0.castSucc = O₀ c from rfl]
  iintro ⟨⟨⟨#HR, ⟨HaB, HaS, HaT, HaV, HaW⟩, HtB, HtS, HtT, HtV, HtW⟩, ⟨⟨Hs1, Hs2, Hs3⟩, ⟨Hs4, Hs5, Hs6⟩, ⟨Hs7, Hs8, Hs9⟩⟩, ⟨Hq, Hk, Hv, Hb, Hl⟩,
    ⟨HcB, HcV, HcW⟩, #Hlev, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩,
    ⟨%W, %hW, HO⟩, ⟨%fo, Hout⟩⟩, HK⟩
  unfold bodyAt0
  sl_exec
  have hw : sound_body.sl.v138 m c f1 f2 = wF m c :=
    (View.readCov_full wM.view _ _ _ _).trans
      (congrArg₂ (fun a b => k0_pay4 (k0_pay2 (yw c)) (k0_pay3 (F := F) a) b) (whole_hit lensvM lensM _ f2 _) (whole_hit btvM btM _ f1 _))
  ihave Hacc := (acc_in c (accF m c) f6 _ ?hL ?hC) $$ H6
  case hL =>
    repeat' first
      | exact fun p hp => absurd hp List.not_mem_nil
      | refine List.forall_mem_cons.mpr ⟨?_, ?_⟩
    iterate 16
      · intro x
        dsimp only
        refine acc_piece_of _ _ _ _ _ ?_ _ _ _ _ _ _ rfl ?_ ?_ ?_ hw _
        · decide
        · exact q_read _ f0 _ _ _
        all_goals
          repeat' first
            | refine (slot_skip _ _ _ (by decide) _ _ _ _ _ _).trans ?_
            | exact k_read _ _ _ _ rfl _ _ _ _ _ _ _ _ _ _ _
  case hC =>
    repeat' first
      | exact fun y hy => absurd hy (Nat.not_lt_zero _)
      | refine cover_step _ _ _ _ ?_
  ihave Hsum := (sum_in c (sumF m c) f7 _ _ _ ?hS) $$ H7
  case hS =>
    iterate 15
      refine sum_step_of _ _ _ _ ?hn _ _ _ _ _ _ rfl rfl ?hq ?hk hw (sum_load _ _ _ _ _ _ ?_)
      case hn => decide
      case hq => exact q_read _ f0 _ _ _
      case hk =>
        repeat' first
          | refine (slot_skip _ _ _ (by decide) _ _ _ _ _ _).trans ?_
          | exact k_read _ _ _ _ rfl _ _ _ _ _ _ _ _ _ _ _
    refine sum_step_of _ _ _ _ ?hn _ _ _ _ _ _ rfl rfl ?hq ?hk hw (fun y hy => absurd hy (Nat.not_lt_zero _))
    case hn => decide
    case hq => exact q_read _ f0 _ _ _
    case hk =>
      repeat' first
        | refine (slot_skip _ _ _ (by decide) _ _ _ _ _ _).trans ?_
        | exact k_read _ _ _ _ rfl _ _ _ _ _ _ _ _ _ _ _
  clear hw hmw
  ihave HO' := (owes_some c (O₀ c) _) $$ HO
  icases HO' with ⟨%W', HO⟩
  iapply (signal_peer m K c _ (dev1_eq c) _ rfl _ rfl W') $$ [HO HtB H8 H9]
  · isplitr; · iexact HR
    isplitl [HO]; · iexact HO
    isplitl [HtB]; · iexact HtB
    unfold held
    isplitl [H8]
    · iexists f8; iexact H8
    · iexists f9; iexact H9
  iintro HO
  iapply (wp_seq c)
  iapply (wait_cell m K c 0 (wpE_semWait_eq Variants.none (c : Thread nD τ) none Set.univ) (O₁ c) _ (mayWait_bar c)) $$ [HcB HO HaB]
  · isplitr; · iexact HR
    isplitr; · iexact Hlev
    isplitl [HcB]; · iexact HcB
    isplitl [HO] <;> iassumption
  iintro ⟨HO, HzB, Hp⟩
  dsimp only [pay]
  icases Hp with ⟨Hr, Hrl⟩
  iapply (wp_seq c)
  rw [k0_part37_eq_skeleton]
  unfold k0_part37_skel
  iapply (send_peer m K c _ (dev2_eq c) accM raccM 1 3 rfl rfl rfl rfl (View.set_whole _) (View.set_whole _) (accF m c)
      (Entails.of_eq rfl) (fun fd => Entails.of_eq (by rw [landed_acc c]; dsimp only [pay]; rw [peer_peer])) (O₁ c) (O₂ c) rfl _) $$ [Hacc Hr HO HtS HtV]
  · isplitr; · iexact HR
    isplitl [Hacc]; · iexact Hacc
    isplitl [Hr]; · iexact Hr
    isplitl [HO]; · iexact HO
    isplitl [HtS] <;> iassumption
  iintro ⟨HcS, HO⟩
  iapply (send_peer m K c _ (dev3_eq c) lM rlM 2 4 rfl rfl rfl rfl (View.set_whole _) (View.set_whole _) (sumF m c)
      (Entails.of_eq rfl) (fun fd => Entails.of_eq (by rw [landed_l c]; dsimp only [pay]; rw [peer_peer])) (O₂ c) 0 (zero_add _).symm _) $$ [Hsum Hrl HO HtT HtW]
  · isplitr; · iexact HR
    isplitl [Hsum]; · iexact Hsum
    isplitl [Hrl]; · iexact Hrl
    isplitl [HO]; · iexact HO
    isplitl [HtT] <;> iassumption
  iintro ⟨HcT, HO⟩
  iapply (wait_cell m K c 1 (wpE_waitDma2_eq Variants.none (c : Thread nD τ) none Set.univ) 0 _ (by rw [MayWait_zero]; iintro -; iempintro)) $$ [HcS HO HaS]
  · isplitr; · iexact HR
    isplitr; · iexact Hlev
    isplitl [HcS]; · iexact HcS
    isplitl [HO] <;> iassumption
  iintro ⟨HO, HzS, Hacc⟩
  iapply (wait_cell m K c 3 (wpE_waitDma2_eq Variants.none (c : Thread nD τ) none Set.univ) 0 _ (by rw [MayWait_zero]; iintro -; iempintro)) $$ [HcV HO HaV]
  · isplitr; · iexact HR
    isplitr; · iexact Hlev
    isplitl [HcV]; · iexact HcV
    isplitl [HO] <;> iassumption
  iintro ⟨HO, HzV, Hr⟩
  iapply (wait_cell m K c 2 (wpE_waitDma2_eq Variants.none (c : Thread nD τ) none Set.univ) 0 _ (by rw [MayWait_zero]; iintro -; iempintro)) $$ [HcT HO HaT]
  · isplitr; · iexact HR
    isplitr; · iexact Hlev
    isplitl [HcT]; · iexact HcT
    isplitl [HO] <;> iassumption
  iintro ⟨HO, HzT, Hsum⟩
  iapply (wait_cell m K c 4 (wpE_waitDma2_eq Variants.none (c : Thread nD τ) none Set.univ) 0 _ (by rw [MayWait_zero]; iintro -; iempintro)) $$ [HcW HO HaW]
  · isplitr; · iexact HR
    isplitr; · iexact Hlev
    isplitl [HcW]; · iexact HcW
    isplitl [HO] <;> iassumption
  iintro ⟨HO, HzW, Hrl⟩
  dsimp only [pay]
  iapply (wp_load Variants.none (c : Thread nD τ) none Set.univ (m := lM) (Finset.subset_univ _)) $$ Hsum; iintro Hsum
  rw [read_l]
  iapply (wp_load Variants.none (c : Thread nD τ) none Set.univ (m := rlM) (Finset.subset_univ _)) $$ Hrl; iintro Hrl
  rw [read_rl]
  iapply (wp_load Variants.none (c : Thread nD τ) none Set.univ (m := accM) (Finset.subset_univ _)) $$ Hacc; iintro Hacc
  rw [read_acc]
  iapply (wp_load Variants.none (c : Thread nD τ) none Set.univ (m := raccM) (Finset.subset_univ _)) $$ Hr; iintro Hr
  rw [read_racc]
  iapply (wp_seq c)
  iapply (wp_load Variants.none (c : Thread nD τ) none Set.univ (m := oM) (Finset.subset_univ _)) $$ Hout; iintro Hout
  iapply (wp_store Variants.none (c : Thread nD τ) none Set.univ (m := oM) (r := r4) (Mk := Finset.univ) (Finset.subset_univ _)) $$ Hout; iintro Hout
  rw [write_out]
  iapply (wp_end c)
  iapply HK
  unfold bodyPost Φ₁ Dat.owesAt Pipeline.owesWithin
  rw [show (dats m 0 c).owed t0_0.succ = 0 from rfl, ownSems0_eq, unscopedSems0_eq]
  unfold args scratch held
  isplitr [HO Hout]
  · isplitl [Hq Hk Hv Hb Hl HzB]
    · isplitr [HzB]
      · isplitl [Hq]; · iexact Hq
        isplitl [Hk]; · iexact Hk
        isplitl [Hv]; · iexact Hv
        isplitl [Hb] <;> iassumption
      · iexact HzB
    isplitl [Hs1 Hs2 Hs3 Hs4 Hs5 Hs6 Hs7 Hs8 Hs9 HzS HzT HzV HzW]
    · isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [HzS]; · iexact HzS
      isplitl [HzT]; · iexact HzT
      isplitl [HzV] <;> iassumption
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [Hacc]; · iexists _; iexact Hacc
    isplitl [Hsum]; · iexists _; iexact Hsum
    isplitl [Hr]; · iexists _; iexact Hr
    iexists _; iexact Hrl
  isplitl [HO]
  · ihave HO' := (owes_some c 0 _) $$ HO
    icases HO' with ⟨%W₁, HO⟩
    iexists W₁
    isplitr; · ipureintro; exact fun _ _ => Or.inl trivial
    iexact HO
  iexists _; isplitr; · (ipureintro; rfl)
  iexact Hout

end Cert.KernelIdeal.Paged

end
-- ==== Proof.Run.lean ====
/-
The run of the kernel on all devices: the launch, and what every final state has.
-/
module

public import proofs.«01_k».proof.Proof.Body
public import Idealize.ShloMosaic.Lib.Pipeline.CollectiveSegs
public import Idealize.ShloMosaic.Lib.Pipeline.ValueKit.Geometry

@[expose] public section

noncomputable section

namespace Cert.KernelIdeal.Paged

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

instance : ER.LandsIn (upEmb : UEmb _ 𝕄) := ER_landsIn

set_option maxRecDepth 40000 in
/-- The library's obligation for the body. -/
theorem body_obligation (c : Dev nD) : BodyObligation (dats (F := F) m 0 c) (defs₀ (F := F)) Variants.none () Set.univ := fun t => by
  rw [fin_N0 t]
  rw [bigSep_W0, bigSep_W0]
  simp only [owns_whole_eq]
  show iprop(Φ₀ m c ∗ (dats m 0 c).owesAt () t0_0.castSucc ∗ (∃ d, stg c cc0_stg0_0 ((dats m 0 c).before (0 : Fin 1) t0_0 d)))
    ⊢ wp frame (wpE (defs₀ (F := F)) Variants.none c none) Set.univ (bodyAt0 t0_0) (fun _ => bodyPost m c)
  unfold Φ₀ start
  iintro ⟨⟨⟨⟨%K, Hg⟩, Hloc, Ha, Hc0, Hc3, Hc4, Hlev⟩, Hscr⟩, Ho, ⟨%d, %f, -, Hout⟩⟩
  iapply (sound_body m K c fun _ => bodyPost m c)
  unfold bodyPre
  isplitr []
  · isplitl [Hg]; · iexact Hg
    isplitl [Hloc]; · iexact Hloc
    isplitl [Ha]; · iexact Ha
    isplitl [Hc0 Hc3 Hc4]
    · isplitl [Hc0]; · iexact Hc0
      isplitl [Hc3] <;> iassumption
    isplitl [Hlev]; · iexact Hlev
    isplitl [Hscr]; · iexact Hscr
    isplitl [Ho]; · iexact Ho
    unfold held; iexists f; iexact Hout
  · iintro H; iexact H

/-! ## What the launch deals -/

theorem ownSemFacts : Pipeline.OwnSemFacts cfg0.spec osem := by decide

theorem share_eq (c : Dev nD) (w : Fin cfg0.W) : (dats m 0 c).share w = fullShare := by unfold Dat.share; split <;> rfl

/-- The cells of the exchange, and one token each. -/
def cellAt : Dev nD × Fin 5 ↪ GSem nD τ sig :=
  ⟨fun ck => cell ck.1 ck.2, fun _ _ h => Prod.ext (cell_inj h).1 (cell_inj h).2⟩
def xcells : Finset (GSem nD τ sig) := Finset.univ.map cellAt
def tokAt : GSem nD τ sig ↪ GSem nD τ sig × ℕ × Unit := ⟨fun g => (g, 0, ()), fun _ _ h => congrArg Prod.fst h⟩
def xtoks : Finset (GSem nD τ sig × ℕ × Unit) := xcells.map tokAt

/-- What the run starts from. -/
def u₀ : UU :=
  (initOf (Pipeline.cells cfgs cellOf_inj) (Pipeline.launchToks cfgs cellOf_inj), (initOf xcells xtoks, 1))

/-- Of the exchange a device first gets the rounds of its own cells, its position at each, and each one's token; -/
def G (c : Dev nD) : sProp 𝕄 :=
  iprop((bigSep Finset.univ fun k : Fin 5 => roundState ER (rd m) (cell c k) 0)
    ∗ (bigSep Finset.univ fun k : Fin 5 => atPos ER (cell c k) 0 ∅ 0) ∗ (bigSep Finset.univ fun k : Fin 5 => reached ER (cell c k) 0)
    ∗ (bigSep Finset.univ fun k : Fin 5 => dutyTok ER (cell c k) 0 ()))

/-- and ends with what it needs for its part. -/
def G' (c : Dev nD) : sProp 𝕄 := iprop((∃ K, ghost m K c) ∗ locals c)

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A conjunct for each cell is one for each device and each of its five. -/
theorem over_cells (Φ : GSem nD τ sig → sProp 𝕄) :
    bigSep xcells Φ = bigSep Finset.univ fun c : Dev nD => bigSep Finset.univ fun k : Fin 5 => Φ (cell c k) := by
  unfold xcells; rw [bigSep_map, bigSep_univ_prod]; rfl

theorem deal : BI.own (ER (initOf xcells xtoks)) ⊢ (|==> bigSep Finset.univ (G m) : sProp 𝕄) := by
  iintro H
  imod (Rounds.fund ER (rd m) xcells xtoks) $$ H with ⟨Hst, Hr, Hat, Htok⟩
  imodintro
  ihave Hst := (Entails.of_eq (over_cells fun g => roundState ER (rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq ((show (bigSep xtoks fun x => (dutyTok ER x.1 x.2.1 x.2.2 : sProp 𝕄)) = bigSep xcells fun g => dutyTok ER g 0 () from by
    unfold xtoks; rw [bigSep_map]; rfl).trans (over_cells fun g => dutyTok ER g 0 ()))) $$ Htok
  unfold G; simp only [bigSep_sep']
  isplitl [Hst]; · iexact Hst
  isplitl [Hat]; · iexact Hat
  isplitl [Hr] <;> iassumption

/-- The call's semaphores and the barrier, sorted into those of the local copies and those of the exchange. -/
theorem sort_sems (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 5 => semVal (cell c k) 0) ∗ locals c : sProp 𝕄) := by
  rw [ownSems0_eq, unscopedSems0_eq, five]
  unfold locals
  iintro ⟨⟨H1, H2, H3, H4, H5, H6, H7, H8, H9, HS, HT, HV, HW⟩, HB⟩
  isplitl [HB HS HT HV HW]
  · isplitl [HB]; · iexact HB
    isplitl [HS]; · iexact HS
    isplitl [HT]; · iexact HT
    isplitl [HV] <;> iassumption
  isplitl [H1 H2 H3]
  · isplitl [H1]; · iexact H1
    isplitl [H2] <;> iassumption
  isplitl [H4 H5 H6]
  · isplitl [H4]; · iexact H4
    isplitl [H5] <;> iassumption
  isplitl [H7]; · iexact H7
  isplitl [H8] <;> iassumption

/-- A device's cells with their records, its positions and tokens, and the semaphores of its local copies. -/
def opened (c : Dev nD) : sProp 𝕄 :=
  iprop((bigSep Finset.univ fun k : Fin 5 => iprop(∃ κ : ℕ, cellInv ER (rd m) κ (cell c k)))
    ∗ (bigSep Finset.univ fun k : Fin 5 => reached ER (cell c k) 0)
    ∗ (bigSep Finset.univ fun k : Fin 5 => dutyTok ER (cell c k) 0 ())
    ∗ (bigSep Finset.univ fun k : Fin 5 => atPos ER (cell c k) 0 ∅ 0) ∗ locals c)

theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  have halloc : iprop((bigSep Finset.univ fun k : Fin 5 => semVal (cell c k) 0) ∗ bigSep Finset.univ fun k : Fin 5 => roundState ER (rd m) (cell c k) 0)
      ⊢ (|={Set.univ}=> bigSep Finset.univ fun k => iprop(∃ κ : ℕ, cellInv ER (rd m) κ (cell c k)) : sProp 𝕄) := by
    rw [← bigSep_sep']
    exact (bigSep_mono fun k _ => (Rounds.body_intro ER (rd m) (cell c k)).trans inv_alloc).trans (bigSep_fupd _ _)
  unfold G opened
  iintro ⟨Hos, Hus, Hst, Hat, Hr, Htok⟩
  ihave Hv := (sort_sems (F := F) c) $$ [Hos Hus]
  · isplitl [Hos] <;> iassumption
  icases Hv with ⟨Hv, Hloc⟩
  imod halloc $$ [Hv Hst] with Hinv
  · isplitl [Hv] <;> iassumption
  imodintro
  isplitl [Hinv]; · iexact Hinv
  isplitl [Hr]; · iexact Hr
  isplitl [Htok]; · iexact Htok
  isplitl [Hat] <;> iassumption

/-- The tokens change hands: each device keeps those of its send semaphores and passes its peer the other three. -/
theorem pass_toks : (bigSep Finset.univ fun c : Dev nD => bigSep Finset.univ fun k : Fin 5 => (dutyTok ER (cell c k) 0 () : sProp 𝕄))
    ⊢ bigSep Finset.univ fun c : Dev nD => payToks c := by
  unfold payToks
  simp only [five, bigSep_sep']
  rw [bigSep_univ_equiv swap (fun c : Dev nD => (dutyTok ER (cell c 0) 0 () : sProp 𝕄)),
    bigSep_univ_equiv swap (fun c : Dev nD => (dutyTok ER (cell c 3) 0 () : sProp 𝕄)),
    bigSep_univ_equiv swap (fun c : Dev nD => (dutyTok ER (cell c 4) 0 () : sProp 𝕄))]
  exact .rfl

theorem regroup : (bigSep Finset.univ fun c : Dev nD => opened m c) ⊢ bigSep Finset.univ (G' m) := by
  have hone (K : Dev nD × Fin 5 → ℕ) (c : Dev nD) : iprop(records m K ∗ (positions c ∗ payToks c ∗ locals c)) ⊢ G' m c := by
    unfold G' ghost
    iintro ⟨HR, Hp, Ht, Hl⟩
    isplitr [Hl]
    · iexists K
      isplitl [HR]; · iexact HR
      isplitl [Hp] <;> iassumption
    · iexact Hl
  have hpos : (bigSep Finset.univ fun c : Dev nD => bigSep Finset.univ fun k : Fin 5 => (atPos ER (cell c k) 0 ∅ 0 : sProp 𝕄))
      ⊢ bigSep Finset.univ fun c : Dev nD => positions c :=
    bigSep_mono fun c _ => by unfold positions; exact Entails.of_eq (five _)
  unfold opened
  simp only [bigSep_sep']
  rw [← bigSep_univ_prod (fun ck : Dev nD × Fin 5 => iprop(∃ κ : ℕ, cellInv ER (rd m) κ (cell ck.1 ck.2))),
    ← bigSep_univ_prod (fun ck : Dev nD × Fin 5 => (reached ER (cell ck.1 ck.2) 0 : sProp 𝕄))]
  iintro ⟨HI, #HR, Htok, Hat, Hloc⟩
  ihave HK := (BI.bigSep_exists_pi Finset.univ (fun (ck : Dev nD × Fin 5) (κ : ℕ) => (cellInv ER (rd m) κ (cell ck.1 ck.2) : sProp 𝕄))) $$ HI
  icases HK with ⟨%K, #HI⟩
  ihave Htok := (pass_toks (F := F)) $$ Htok
  iapply (show iprop(records m K ∗ bigSep Finset.univ fun c : Dev nD => iprop(positions c ∗ payToks c ∗ locals c)) ⊢ bigSep Finset.univ (G' m) from
    (sep_mono_left (BI.bigSep_of_persistent Finset.univ (records m K))).trans (by rw [← bigSep_sep']; exact bigSep_mono fun c _ => hone K c))
  isplitr
  · unfold records
    isplitl
    · iexact HI
    · iexact HR
  simp only [bigSep_sep']
  isplitl [Hat]
  · iapply hpos; iexact Hat
  isplitl [Htok] <;> iassumption

theorem all_open : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## What each device is owed at the start -/

theorem cell_iff {d c : Dev nD} {k j : Fin 5} : cell c k = cell (peer d) j ↔ d = peer c ∧ k = j :=
  ⟨fun h => ⟨by rw [(cell_inj h).1, peer_peer], (cell_inj h).2⟩, fun h => by rw [h.1, h.2, peer_peer]⟩

theorem owed_cell (d c : Dev nD) (k : Fin 5) (hk : k = 0 ∨ k = 3 ∨ k = 4) : O₀ d (cell c k) () = if d = peer c then amt k else 0 := by
  unfold O₀ O₁ O₂
  simp only [Pi.add_apply, Finsupp.add_apply, tallyAt_apply, cell_iff]
  rcases hk with rfl | rfl | rfl <;> by_cases h : d = peer c <;> simp [h]

theorem credit_cell (c : Dev nD) (k : Fin 5) (hk : k = 0 ∨ k = 3 ∨ k = 4) :
    tallyOn (cell c k) (launchCredit (Pipeline.owing O₀) 0 (cell c k)) = (tallyAt (cell c k) () (amt k) : CellTallies nD τ sig Unit) := by
  unfold tallyAt; refine congrArg _ (Finsupp.ext fun u => ?_); cases u
  rw [Pipeline.launchCredit_owing, Finsupp.single_eq_same, Finset.sum_congr rfl fun d _ => owed_cell d c k hk,
    Finset.sum_ite_eq' Finset.univ (peer c) fun _ => amt k, if_pos (Finset.mem_univ _)]

theorem credits (c : Dev nD) : (Pipeline.launchCred O₀ c : sProp 𝕄)
    ⊢ iprop(cred (tallyAt (cell c 0) () (amt 0)) ∗ cred (tallyAt (cell c 3) () (amt 3)) ∗ cred (tallyAt (cell c 4) () (amt 4))) := by
  unfold Pipeline.launchCred
  rw [bigSep_sdiff_split (Finset.subset_univ [csem 0, csem 3, csem 4].toFinset), bigSep_eq_bigSepL _ (by decide)]
  rw [← credit_cell c 0 (.inl rfl), ← credit_cell c 3 (.inr (.inl rfl)), ← credit_cell c 4 (.inr (.inr rfl))]
  exact sep_elim_left

/-! ## The run -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' args
  iintro ⟨Ha, Hlev, Hcr, -, HG, Hl⟩
  ihave Hc := (credits (F := F) c) $$ Hcr
  icases Hc with ⟨H0, H3, H4⟩
  imodintro
  isplitl
  · isplitl [HG]; · iexact HG
    isplitl [Hl]; · iexact Hl
    isplitl [Ha]; · iexact Ha
    isplitl [H0]; · iexact H0
    isplitl [H3]; · iexact H3
    isplitl [H4] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem leave (c : Dev nD) :
    (dats m 0 c).Φ (Fin.last cfg0.N) ⊢ iprop((args m c ∗ unscopedSems0 c) ∗ Pipeline.ownSems0 osem c ∗ Pipeline.scopedRest cfg0.spec c) := by
  rw [show (dats m 0 c).Φ (Fin.last cfg0.N) = Φ₁ m c from rfl, scratch_eq]
  exact .rfl

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide)
    · rw [show (dats m 0 c).owed ⟨_ + 1, ht⟩ = 0 from rfl, MayWait_zero]; iintro -; iempintro

/-- The arguments end as they were, and the semaphores outside the call at zero. -/
def kept (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ ∀ sm : SemLoc sig, sm.isScoped .tc = false → s.sem ((c.tc : Thread nD τ), sm) = 0

/-- What a device holds of a buffer at the end is what the memory holds there. -/
theorem read_back (s' : Phys nD τ sig (Elt F)) (c : Dev nD) {sp : Space} {S : Shape} {e : EltTy} (M : Memref sig .tc sp S e) (f : Bf (F := F) c M) :
    iprop(pt c M f ∗ SI s') ⊢ (⌜s'.mem.mem (M.view.loc (c : Thread nD τ)) = f⌝ : sProp 𝕄) := by
  iintro ⟨Hpt, HSI⟩
  icombine HSI Hpt gives %h
  ipureintro; exact funext fun i => h i (Finset.mem_univ i)

theorem keep (c : Dev nD) (s' : Phys nD τ sig (Elt F)) :
    iprop((args m c ∗ unscopedSems0 c) ∗ emp ∗ SI s') ⊢ |={Set.univ}=> iprop(⌜kept m c s'.mem⌝ ∗ SI s' : sProp 𝕄) := by
  unfold args
  iintro ⟨⟨⟨H0, H1, H2, H3, H4⟩, Hu⟩, -, HSI⟩
  ihave %h0 := (read_back s' c qM _) $$ [H0 HSI]
  · isplitl [H0] <;> iassumption
  ihave %h1 := (read_back s' c kM _) $$ [H1 HSI]
  · isplitl [H1] <;> iassumption
  ihave %h2 := (read_back s' c vM _) $$ [H2 HSI]
  · isplitl [H2] <;> iassumption
  ihave %h3 := (read_back s' c btM _) $$ [H3 HSI]
  · isplitl [H3] <;> iassumption
  ihave %h4 := (read_back s' c lensM _) $$ [H4 HSI]
  · isplitl [H4] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨⟨h0, h1, h2, h3, h4⟩, hs⟩
  · iexact HSI

/-- The result array ends at the quotient. -/
theorem result_eq (c : Dev nD) : (dats (F := F) m 0 c).arrAt 0 cfg0.N = outAt m c :=
  Pipeline.Dat.arrAt_eq_of_after_last (dats (F := F) m 0 c) 0 t0_0 (by decide +kernel) _ fun _ => rfl

/-- What holds at the end of every run: the result, the arguments, and all semaphores at zero. -/
def ends (r : PUnit × MemSt nD τ sig (Elt F)) : Prop :=
  (∀ c : Dev nD, r.2.mem ((c : Thread nD τ).loc main_v1) = outAt m c ∧ kept m c r.2) ∧ r.2.sem = fun _ => 0

set_option maxRecDepth 8000 in
theorem run_main (ρ : Dev nD → PrngReg) : θ_run defs (onTc (τ := τ) (main (F := F))) ⟨m, fun _ => 0, ρ⟩ (ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := fun c => (body_obligation m c)) (hne := fun w => by fin_cases w; exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (show BI.own (embR ((initOf xcells xtoks, 1) : UR sig nD τ × Counters)) ⊢ (BI.own (ER (initOf xcells xtoks)) : sProp 𝕄) from .rfl) $$ HX
      imod (deal m) $$ HX' with HG
      imodintro
      isplitl [HP] <;> iassumption)
    (hglob := all_open m)
    (hA := fun _ _ => rfl) (hpf := fun _ k => k.elim0)
    (X := start m) (Y := fun c => iprop(args m c ∗ unscopedSems0 c)) (Z := fun _ => iprop(emp))
    (hX := start_intro m ρ) (hin := enter m) (hout := leave m)
    (QY := kept m) (hY := keep m)
    (hQ := fun _ h hs => ⟨fun c => ⟨((h c).1 0).trans (result_eq m c), (h c).2.2⟩, sem_eq_zero hs fun c => (h c).2.2.2⟩)

end Cert.KernelIdeal.Paged

end
-- ==== Proof.Sums.lean ====
/-
Sums over pages and over table positions, and the quotient of two sums of exponentials, over the extended reals: no
program is read here.
-/
module

public import Idealize.ShloMosaic.PureOps.Ideal

@[expose] public section

noncomputable section

namespace Cert.Attend

open Idealize.ShloMosaic
open scoped BigOperators

/-! ## Pages and table positions -/

/-- How many live positions of the table name page `n`. -/
def hits (live : Fin 256 → Prop) [DecidablePred live] (page : Fin 256 → Fin 512) (n : Fin 512) : ℕ :=
  (Finset.univ.filter fun p => live p ∧ page p = n).card

/-- A multiple of an extended real, as a product. -/
theorem natCast_mul (n : ℕ) (x : EReal) : ((n : ℝ) : EReal) * x = n • x := by
  induction n with
  | zero => simp
  | succ n ih =>
    rw [succ_nsmul, ← ih, Nat.cast_succ, EReal.coe_add, EReal.coe_one,
      EReal.right_distrib_of_nonneg (EReal.coe_nonneg.2 (Nat.cast_nonneg n)) zero_le_one, one_mul]

/-- Summing over the pages, each as often as it is named, is summing over the live positions of the table. -/
theorem sum_hits (live : Fin 256 → Prop) [DecidablePred live] (page : Fin 256 → Fin 512) (x : Fin 512 → EReal) :
    ∑ n, ((hits live page n : ℝ) : EReal) * x n = ∑ p, if live p then x (page p) else 0 := by
  have h1 : ∀ n, ((hits live page n : ℝ) : EReal) * x n = ∑ p, if live p ∧ page p = n then x n else 0 := fun n => by
    rw [natCast_mul, hits, ← Finset.sum_const, Finset.sum_filter]
  rw [Finset.sum_congr rfl fun n _ => h1 n, Finset.sum_comm]
  refine Finset.sum_congr rfl fun p _ => ?_
  by_cases hp : live p
  · simp [hp]
  · simp [hp]

/-- Page `i` of half `y`. -/
def pageOf (y : Fin 2) (i : Fin 256) : Fin 512 := ⟨i.val + y.val * 256, by omega⟩

/-- The pages are those of the two halves. -/
theorem sum_halves (f : Fin 512 → EReal) : ∑ n, f n = ∑ i, f (pageOf 0 i) + ∑ i, f (pageOf 1 i) := by
  rw [← Equiv.sum_comp (finProdFinEquiv : Fin 2 × Fin 256 ≃ Fin 512) f, Fintype.sum_prod_type, Fin.sum_univ_two]
  refine congrArg₂ (· + ·) (Finset.sum_congr rfl fun i _ => congrArg f (Fin.ext ?_)) (Finset.sum_congr rfl fun i _ => congrArg f (Fin.ext ?_))
  · show i.val + 256 * 0 = i.val + 0 * 256; rfl
  · show i.val + 256 * 1 = i.val + 1 * 256; rfl

/-- Token `k` of page `i`, among the tokens of a half. -/
def tokOf (i : Fin 256) (k : Fin 32) : Fin 8192 := ⟨i.val * 32 + k.val, by omega⟩
/-- The page of a token, -/
def tokPage (j : Fin 8192) : Fin 256 := ⟨j.val / 32, by omega⟩
/-- and its place there. -/
def tokPlace (j : Fin 8192) : Fin 32 := ⟨j.val % 32, by omega⟩

@[simp] theorem tokPage_tokOf (i : Fin 256) (k : Fin 32) : tokPage (tokOf i k) = i := Fin.ext (by
  show (i.val * 32 + k.val) / 32 = i.val; omega)
@[simp] theorem tokPlace_tokOf (i : Fin 256) (k : Fin 32) : tokPlace (tokOf i k) = k := Fin.ext (by
  show (i.val * 32 + k.val) % 32 = k.val; omega)

/-- The tokens are those of the pages. -/
theorem sum_tokens (f : Fin 8192 → EReal) : ∑ j, f j = ∑ i, ∑ k, f (tokOf i k) := by
  rw [← Equiv.sum_comp (finProdFinEquiv : Fin 256 × Fin 32 ≃ Fin 8192) f, Fintype.sum_prod_type]
  refine Finset.sum_congr rfl fun i _ => Finset.sum_congr rfl fun k _ => congrArg f (Fin.ext ?_)
  show k.val + 32 * i.val = i.val * 32 + k.val
  omega

/-- The two halves' sums over their tokens, each page's taken as often as it is named, together are the sum over the live
positions and their tokens. -/
theorem sum_two (live : Fin 256 → Prop) [DecidablePred live] (page : Fin 256 → Fin 512) (x : Fin 512 → Fin 32 → EReal)
    (S : Fin 2 → EReal)
    (hS : ∀ y, S y = ∑ j, ((hits live page (pageOf y (tokPage j)) : ℝ) : EReal) * x (pageOf y (tokPage j)) (tokPlace j)) :
    S 0 + S 1 = ∑ p, ∑ k, if live p then x (page p) k else 0 := by
  have h1 : ∀ y, S y = ∑ i, ∑ k, ((hits live page (pageOf y i) : ℝ) : EReal) * x (pageOf y i) k := fun y => by
    rw [hS, sum_tokens]
    simp only [tokPage_tokOf, tokPlace_tokOf]
  rw [h1, h1, ← sum_halves (fun n => ∑ k, ((hits live page n : ℝ) : EReal) * x n k), Finset.sum_comm,
    Finset.sum_congr rfl fun k _ => sum_hits live page fun n => x n k, Finset.sum_comm]

/-! ## The quotient -/

section Quotient

variable {ι : Type} [Fintype ι] (live : ι → Prop) [DecidablePred live] (s : ι → ℝ) (v : ι → EReal)

/-- A positive real factor goes into a sum. -/
theorem sum_mul_real (f : ι → EReal) (r : ℝ) (hr : 0 ≤ r) : (∑ i, f i) * (r : EReal) = ∑ i, f i * (r : EReal) := by
  classical
  refine Finset.induction_on (Finset.univ : Finset ι) (by simp) fun i t hi ih => ?_
  rw [Finset.sum_insert hi, Finset.sum_insert hi, ← ih]
  exact EReal.right_distrib_of_nonneg_of_ne_top (EReal.coe_nonneg.2 hr) (EReal.coe_ne_top r) _ _

/-- Sums of reals are real. -/
theorem sum_coe (f : ι → ℝ) : ∑ i, (f i : EReal) = ((∑ i, f i : ℝ) : EReal) := by
  classical
  refine Finset.induction_on (Finset.univ : Finset ι) (by simp) fun i t hi ih => ?_
  rw [Finset.sum_insert hi, Finset.sum_insert hi, ih, EReal.coe_add]

/-- The exponential of a score less a real, of a position that may be dead. -/
theorem exp_masked (μ : ℝ) (i : ι) :
    Ideal.exp ((if live i then (s i : EReal) else ⊥) - (μ : EReal)) = ((if live i then Real.exp (s i) * Real.exp (-μ) else 0 : ℝ) : EReal) := by
  by_cases h : live i
  · rw [if_pos h, if_pos h, ← EReal.coe_sub]
    show ((Real.exp (s i - μ) : ℝ) : EReal) = _
    rw [sub_eq_add_neg, Real.exp_add]
  · rw [if_neg h, if_neg h]
    rfl

/-- A softmax, its scores less a real, weighs as the exponentials of the scores do. -/
theorem softmax (i₀ : ι) (h₀ : live i₀) (μ : ℝ) :
    ∑ i, v i * Ideal.div (Ideal.exp ((if live i then (s i : EReal) else ⊥) - (μ : EReal)))
        (∑ i, Ideal.exp ((if live i then (s i : EReal) else ⊥) - (μ : EReal)))
      = Ideal.div (∑ i, if live i then ((Real.exp (s i) : ℝ) : EReal) * v i else 0) (∑ i, if live i then ((Real.exp (s i) : ℝ) : EReal) else 0) := by
  have hL : (∑ i, if live i then ((Real.exp (s i) : ℝ) : EReal) else 0) = ((∑ i, (if live i then Real.exp (s i) else 0) : ℝ) : EReal) := by
    rw [← sum_coe]
    refine Finset.sum_congr rfl fun i _ => ?_
    by_cases h : live i
    · rw [if_pos h, if_pos h]
    · rw [if_neg h, if_neg h]; rfl
  have hpos : 0 < ∑ i, (if live i then Real.exp (s i) else 0) := by
    refine Finset.sum_pos' (fun i _ => ?_) ⟨i₀, Finset.mem_univ _, ?_⟩
    · split
      · exact (Real.exp_pos _).le
      · exact le_rfl
    · rw [if_pos h₀]; exact Real.exp_pos _
  generalize hl : (∑ i, (if live i then Real.exp (s i) else 0)) = l at hL hpos
  have hM : (∑ i, Ideal.exp ((if live i then (s i : EReal) else ⊥) - (μ : EReal))) = ((l * Real.exp (-μ) : ℝ) : EReal) := by
    rw [Finset.sum_congr rfl fun i _ => exp_masked live s μ i, sum_coe, ← hl, Finset.sum_mul]
    refine congrArg _ (Finset.sum_congr rfl fun i _ => ?_)
    split
    · rfl
    · rw [zero_mul]
  have hne : l ≠ 0 := hpos.ne'
  have hμ := Real.exp_pos (-μ)
  have hne' : l * Real.exp (-μ) ≠ 0 := mul_ne_zero hne hμ.ne'
  have hdiv : ∀ (x : EReal) (r : ℝ), r ≠ 0 → Ideal.div x (r : EReal) = x * ((r⁻¹ : ℝ) : EReal) := fun x r hr => by
    unfold Ideal.div
    rw [if_neg (by exact_mod_cast hr), EReal.coe_inv]
  rw [hL, hM, hdiv _ _ hne, sum_mul_real _ _ (inv_nonneg.2 hpos.le)]
  refine Finset.sum_congr rfl fun i _ => ?_
  rw [hdiv _ _ hne', exp_masked live s μ i, ← EReal.coe_mul]
  by_cases h : live i
  · rw [if_pos h, if_pos h, mul_right_comm ((Real.exp (s i) : ℝ) : EReal), ← EReal.coe_mul, mul_comm (v i)]
    refine congrArg (fun r : ℝ => (r : EReal) * v i) ?_
    field_simp
  · rw [if_neg h, if_neg h, zero_mul, zero_mul]
    exact mul_zero _

end Quotient

/-- The greatest of extended reals below infinity, one of them a real, is a real. -/
theorem foldl_max_real {ι : Type} (f : ι → EReal) (l : List ι) (hf : ∀ i ∈ l, f i ≠ ⊤) (i₀ : ι) (h₀ : i₀ ∈ l) (hb : f i₀ ≠ ⊥) :
    ∃ μ : ℝ, l.foldl (fun r i => max r (f i)) ⊥ = (μ : EReal) := by
  have top : ∀ (l : List ι) (a : EReal), a ≠ ⊤ → (∀ i ∈ l, f i ≠ ⊤) → l.foldl (fun r i => max r (f i)) a ≠ ⊤ := by
    intro l
    induction l with
    | nil => exact fun a ha _ => ha
    | cons i l ih =>
      intro a ha h
      refine ih _ ?_ fun j hj => h j (List.mem_cons_of_mem _ hj)
      rcases max_choice a (f i) with e | e
      · exact e.trans_ne ha
      · exact e.trans_ne (h i (List.mem_cons_self ..))
  have mono : ∀ (l : List ι) (a : EReal), a ≤ l.foldl (fun r i => max r (f i)) a := by
    intro l
    induction l with
    | nil => exact fun a => le_rfl
    | cons i l ih => exact fun a => (le_max_left a (f i)).trans (ih _)
  have ge : ∀ (l : List ι) (a : EReal), ∀ i ∈ l, f i ≤ l.foldl (fun r i => max r (f i)) a := by
    intro l
    induction l with
    | nil => exact fun a i hi => nomatch hi
    | cons j l ih =>
      intro a i hi
      rcases List.mem_cons.1 hi with rfl | hi
      · exact (le_max_right a (f i)).trans (mono l _)
      · exact ih _ i hi
  refine ⟨_, (EReal.coe_toReal (top l ⊥ bot_ne_top hf) fun e => hb ?_).symm⟩
  exact le_bot_iff.1 (e ▸ ge l ⊥ i₀ h₀)

end Cert.Attend

end
-- ==== Proof.HeadValue.lean ====
/-
What one device computes, read at an element, over exact values: the weight of a token of a page is how many live table
entries name the page, and the two sums of a head are sums over the tokens of the device's pages.
-/
module

public import proofs.«01_k».proof.Proof.Heads
public import proofs.«01_k».proof.Proof.Sums
public import Idealize.ShloMosaic.PureOps.Ideal.Laws
public import Idealize.ShloMosaic.Lib.MatmulPlain
public import Idealize.ShloMosaic.Lib.ValueIdx
public import Idealize.ShloMosaic.Lib.Decide
public import Idealize.ShloMosaic.Lib.Affine

@[expose] public section

noncomputable section

namespace Cert.KernelIdeal.Paged

open Cert.KernelIdeal Cert.KernelIdeal.Gen Cert.Attend
open Idealize.ShloMosaic Idealize.ShloMosaic.TcCoe
open Idealize.ShloMosaic.ValueIdx
open scoped BigOperators

/-! ## The weights -/

/-- The quotient by 32 that the kernel computes of a token's number, as it computes it. -/
def tokWord (w : BitVec 32) : BitVec 32 :=
  Scalar.select (IntOp.andi
      (IntOp.cmpi .ne (IntOp.subi ((IntOp.cmpi .sgt w 0#32).setWidth 32) ((IntOp.cmpi .slt w 0#32).setWidth 32))
        (Scalar.subi (Scalar.extui (Scalar.cmpi .sgt 32#32 0#32)) (Scalar.extui (Scalar.cmpi .slt 32#32 0#32))))
      (IntOp.cmpi .ne (IntOp.remsi .vector w 32#32) 0#32))
    (IntOp.subi (IntOp.divsi .vector w 32#32) 1#32) (IntOp.divsi .vector w 32#32)

/-- It is the token's page. -/
theorem tokWord_eq (i : Fin 256) (k : Fin 32) : tokWord (BitVec.ofNat 32 (i.val * 32 + k.val)) = BitVec.ofNat 32 i.val := by
  revert i k; decide +kernel

/-- Whether entry `p` of a row of the table names page `i` of the device's pages, and is live: the bit of the kernel. -/
def hitBit (y : BitVec 32) (e : BitVec 32) (l : BitVec 32) (p : Fin 256) (i : Fin 256) : BitVec 1 :=
  IntOp.andi (IntOp.cmpi .eq e (IntOp.addi (BitVec.ofNat 32 i.val) (Scalar.muli y 256#32))) (IntOp.cmpi .slt (BitVec.ofNat 32 p.val) l)

/-- A bit, widened and read as a number. -/
theorem bit_real (b : BitVec 1) : (FloatOps.sitofp (F := Ideal) .f32 (b.setWidth 32) : EReal) = if b = 1#1 then 1 else 0 := by
  have hb : b = 0#1 ∨ b = 1#1 := by revert b; decide
  rcases hb with rfl | rfl
  · show (((((0#1).setWidth 32).toInt : ℤ) : ℝ) : EReal) = _
    simp
  · show (((((1#1).setWidth 32).toInt : ℤ) : ℝ) : EReal) = _
    simp

/-- How many entries name a page. -/
theorem count_real (q : Fin 256 → Prop) [DecidablePred q] :
    (∑ p, if q p then (1 : EReal) else 0) = (((Finset.univ.filter q).card : ℝ) : EReal) := by
  rw [← Finset.sum_filter, Finset.sum_const, ← natCast_mul, mul_one]

/-- How many live entries of each row of the table name each page of the device, as the kernel counts them, -/
def countA (y : BitVec 32) (fb : S32x256.Idx → BitVec 32) (fl : S32x1.Idx → BitVec 32) : FVec Ideal S32x256 .f32 :=
  multiReduction .add [2] S32x256
    (sitofp .f32 (extui 32 (andi (cmpi .eq (broadcastTo S32x256x256 (shapeCast S32x1x256 fb shapeCasts_S32x256_S32x1x256) broadcasts_S32x1x256_S32x256x256) (k0_pay2 y))
      (broadcastTo S32x256x256 (k0_pay3 (F := Ideal) fl) broadcasts_S32x1x256_S32x256x256)) natLt_1_32))
    0x00000000#32 reduces_S32x256x256_S32x256 (.inl rfl) rfl
/-- and the matrix that spreads a page's count over its tokens. -/
def spreadA : FVec Ideal S256x8192 .f32 :=
  sitofp .f32 (extui 32 (cmpi .eq (iota .tc S256x8192 32 [0] iota_S256x8192_d0_w32)
    (fun t : S256x8192.Idx => tokWord (BitVec.ofNat 32 (0 * 8192 + (t 1).val)))) natLt_1_32)

/-- The weights are the product of the two. -/
theorem wv_eq (y : BitVec 32) (fb : S32x256.Idx → BitVec 32) (fl : S32x1.Idx → BitVec 32) :
    wv (F := Ideal) y fb fl = shapeCast S32x8192 (matmul dot_S32x256_S256x8192_S32x8192_1_0_0_1_n_n none
      (truncf .bf16 (countA y fb fl) bitsLt_bf16_f32) (truncf .bf16 spreadA bitsLt_bf16_f32) (constant S32x8192 .f32 0x00000000#32))
      shapeCasts_S32x8192_S32x8192 := rfl

/-- The kernel's bit for page `i` and entry `p` of row `b`. -/
theorem bit_apply (y : BitVec 32) (fb : S32x256.Idx → BitVec 32) (fl : S32x1.Idx → BitVec 32) (b : Fin 32) (i p : Fin 256) :
    andi (cmpi .eq (broadcastTo S32x256x256 (shapeCast S32x1x256 fb shapeCasts_S32x256_S32x1x256) broadcasts_S32x1x256_S32x256x256) (k0_pay2 y))
        (broadcastTo S32x256x256 (k0_pay3 (F := Ideal) fl) broadcasts_S32x1x256_S32x256x256) (ix3 b i p)
      = hitBit y (fb (ix2 b p)) (fl (ix2 b (0 : Fin 1))) p i := by
  have e1 : broadcastTo S32x256x256 (shapeCast S32x1x256 fb shapeCasts_S32x256_S32x1x256) broadcasts_S32x1x256_S32x256x256 (ix3 b i p) = fb (ix2 b p) := by
    rw [broadcastTo_apply _ _ _ (ix3 b (0 : Fin 1) p : S32x1x256.Idx) (by
      intro a; match a with | ⟨0, _⟩ => rfl | ⟨1, _⟩ => rfl | ⟨2, _⟩ => rfl)]
    refine shapeCast_apply _ _ _ _ ?_
    rw [Shape.rowMajor_val_two, Shape.rowMajor_val_three]
    show b.val * 256 + p.val = (b.val * 1 + 0) * 256 + p.val
    omega
  have e3 : broadcastTo S32x1x256 (shapeCast S32x1x1 fl shapeCasts_S32x1_S32x1x1) broadcasts_S32x1x1_S32x1x256 (ix3 b (0 : Fin 1) p) = fl (ix2 b (0 : Fin 1)) := by
    rw [broadcastTo_apply _ _ _ (ix3 b (0 : Fin 1) (0 : Fin 1) : S32x1x1.Idx) (by
      intro a; match a with | ⟨0, _⟩ => rfl | ⟨1, _⟩ => rfl | ⟨2, _⟩ => rfl)]
    refine shapeCast_apply _ _ _ _ ?_
    rw [Shape.rowMajor_val_two, Shape.rowMajor_val_three]
    show b.val * 1 + 0 = (b.val * 1 + 0) * 1 + 0
    omega
  have e2 : broadcastTo S32x256x256 (k0_pay3 (F := Ideal) fl) broadcasts_S32x1x256_S32x256x256 (ix3 b i p)
      = IntOp.cmpi .slt (BitVec.ofNat 32 p.val) (fl (ix2 b (0 : Fin 1))) := by
    rw [broadcastTo_apply _ _ _ (ix3 b (0 : Fin 1) p : S32x1x256.Idx) (by
      intro a; match a with | ⟨0, _⟩ => rfl | ⟨1, _⟩ => rfl | ⟨2, _⟩ => rfl)]
    have e4 : k0_pay3 (F := Ideal) fl (ix3 b (0 : Fin 1) p) = IntOp.cmpi .slt (BitVec.ofNat 32 (0 * 256 + p.val))
        (broadcastTo S32x1x256 (shapeCast S32x1x1 fl shapeCasts_S32x1_S32x1x1) broadcasts_S32x1x1_S32x1x256 (ix3 b (0 : Fin 1) p)) := rfl
    rw [e4, e3, Nat.zero_mul, Nat.zero_add]
  have e5 : k0_pay2 y (ix3 b i p) = IntOp.addi (BitVec.ofNat 32 (0 * 256 + i.val)) (Scalar.muli y 256#32) := rfl
  show IntOp.andi (IntOp.cmpi .eq (broadcastTo S32x256x256 (shapeCast S32x1x256 fb shapeCasts_S32x256_S32x1x256) broadcasts_S32x1x256_S32x256x256 (ix3 b i p)) (k0_pay2 y (ix3 b i p)))
    (broadcastTo S32x256x256 (k0_pay3 (F := Ideal) fl) broadcasts_S32x1x256_S32x256x256 (ix3 b i p)) = _
  rw [e1, e2, e5, Nat.zero_mul, Nat.zero_add, hitBit]

/-- The count of page `i` in row `b`. -/
theorem countA_apply (y : BitVec 32) (fb : S32x256.Idx → BitVec 32) (fl : S32x1.Idx → BitVec 32) (b : Fin 32) (i : Fin 256) :
    (countA y fb fl : S32x256.Idx → EReal) (ix2 b i)
      = (((Finset.univ.filter fun p => hitBit y (fb (ix2 b p)) (fl (ix2 b (0 : Fin 1))) p i = 1#1).card : ℝ) : EReal) := by
  refine (Ideal.multiReduction_add_single (s := S32x256x256) (a := (2 : Fin 3)) _ _ _ _ _ _).trans ?_
  rw [← count_real]
  refine Finset.sum_congr rfl fun (p : Fin 256) _ => ?_
  have hl : reduces_S32x256x256_S32x256.lift (ix2 b i) p = (ix3 b i p : S32x256x256.Idx) := by
    funext a; apply Fin.ext
    match a with
    | ⟨0, _⟩ => rfl
    | ⟨1, _⟩ => rfl
    | ⟨2, _⟩ => rfl
  rw [hl, sitofp_apply, extui_apply, bit_real, bit_apply]

/-- A page's count goes to its own tokens. -/
theorem spreadA_apply (i : Fin 256) (j : Fin 8192) : (spreadA : S256x8192.Idx → EReal) (ix2 i j) = if i = tokPage j then 1 else 0 := by
  have hj : tokWord (BitVec.ofNat 32 (0 * 8192 + j.val)) = BitVec.ofNat 32 (tokPage j).val := by
    rw [← tokWord_eq (tokPage j) (tokPlace j)]
    refine congrArg (fun n => tokWord (BitVec.ofNat 32 n)) ?_
    show 0 * 8192 + j.val = j.val / 32 * 32 + j.val % 32
    omega
  unfold spreadA
  rw [sitofp_apply, extui_apply, bit_real]
  show (if IntOp.cmpi .eq (BitVec.ofNat 32 (0 * 256 + i.val)) (tokWord (BitVec.ofNat 32 (0 * 8192 + j.val))) = 1#1 then (1 : EReal) else 0) = _
  rw [hj, Nat.zero_mul, Nat.zero_add]
  refine if_congr (IntOp.cmpi_eq.trans ⟨fun h => ?_, fun h => by rw [h]⟩) rfl rfl
  have hi := i.isLt
  have ht := (tokPage j).isLt
  have h' := congrArg BitVec.toNat h
  rw [BitVec.toNat_ofNat, BitVec.toNat_ofNat, Nat.mod_eq_of_lt (by omega), Nat.mod_eq_of_lt (by omega)] at h'
  exact Fin.ext h'

/-- The weight of token `j` of the device's pages in row `b`: how many live entries name its page. -/
theorem wv_apply (y : BitVec 32) (fb : S32x256.Idx → BitVec 32) (fl : S32x1.Idx → BitVec 32) (b : Fin 32) (j : Fin 8192) :
    (wv (F := Ideal) y fb fl : S32x8192.Idx → EReal) (ix2 b j)
      = (((Finset.univ.filter fun p => hitBit y (fb (ix2 b p)) (fl (ix2 b (0 : Fin 1))) p (tokPage j) = 1#1).card : ℝ) : EReal) := by
  rw [wv_eq, shapeCast_self]
  refine (Ideal.matmul_plain_apply (M := 32) (K := 256) (N := 8192) none _ _ _ b j).trans ?_
  rw [constant_apply, Ideal.ofBits_zero_f32, zero_add]
  refine (Finset.sum_congr rfl fun i _ => congrArg₂ (· * ·) (countA_apply y fb fl b i) (spreadA_apply i j)).trans ?_
  simp only [mul_ite, mul_one, mul_zero, Finset.sum_ite_eq', Finset.mem_univ, if_true]

/-! ## The sums of a head -/

/-- The scale of the scores. -/
def scaleR : EReal := Ideal.ofBits .f32 0x3DB504F3#32

/-- The score of row `b` and token `k` of page `i` of the pages given, in head `h`. -/
def score {N : ℕ} (fq : S32x1x16x128.Idx → EReal) (fk : (⟨4, ![N, 32, 16, 128]⟩ : Shape).Idx → EReal) (b : Fin 32) (h : Fin 16) (i : Fin N) (k : Fin 32) : EReal :=
  (∑ d : Fin 128, fq (ix4 b (0 : Fin 1) h d) * fk (ix4 i k h d)) * scaleR

/-- The query row of a head, as the product takes it, -/
theorem q_apply (fq : S32x1x16x128.Idx → EReal) (h : Fin 16) (b : Fin 32) (d : Fin 128) :
    shapeCast S32x128 (qH (F := Ideal) fq h) shapeCasts_S32x1x1x128_S32x128 (ix2 b d) = fq (ix4 b (0 : Fin 1) h d) := by
  rw [shapeCast_apply _ _ _ (ix4 b (0 : Fin 1) (0 : Fin 1) d : S32x1x1x128.Idx) (by
    rw [Shape.rowMajor_val_four, Shape.rowMajor_val_two]
    show ((b.val * 1 + 0) * 1 + 0) * 128 + d.val = b.val * 128 + d.val
    omega)]
  rfl

/-- and the pages. -/
theorem k_apply (fk : S256x32x16x128.Idx → EReal) (h : Fin 16) (j : Fin 8192) (d : Fin 128) :
    shapeCast S8192x128 (shapeCast S256x32x128 (kH (F := Ideal) fk h) shapeCasts_S1x256x32x128_S256x32x128) shapeCasts_S256x32x128_S8192x128 (ix2 j d)
      = fk (ix4 (tokPage j) (tokPlace j) h d) := by
  rw [shapeCast_apply _ _ _ (ix3 (tokPage j) (tokPlace j) d : S256x32x128.Idx) (by
    rw [Shape.rowMajor_val_three, Shape.rowMajor_val_two]
    show (j.val / 32 * 32 + j.val % 32) * 128 + d.val = j.val * 128 + d.val
    omega)]
  rw [shapeCast_apply _ _ _ (ix4 (0 : Fin 1) (tokPage j) (tokPlace j) d : S1x256x32x128.Idx) (by
    rw [Shape.rowMajor_val_three, Shape.rowMajor_val_four]
    show ((0 * 256 + j.val / 32) * 32 + j.val % 32) * 128 + d.val = (j.val / 32 * 32 + j.val % 32) * 128 + d.val
    omega)]
  rfl

/-- The weighted exponential of a score. -/
theorem pay5_apply (fq : S32x1x16x128.Idx → EReal) (fk : S256x32x16x128.Idx → EReal) (w : FVec Ideal S32x8192 .f32) (h : Fin 16) (b : Fin 32) (j : Fin 8192) :
    (k0_pay5 (F := Ideal) (qH (F := Ideal) fq h) (kH (F := Ideal) fk h) w : S32x8192.Idx → EReal) (ix2 b j)
      = w (ix2 b j) * Ideal.exp (score fq fk b h (tokPage j) (tokPlace j)) := by
  refine congrArg (fun z => w (ix2 b j) * Ideal.exp (z * scaleR)) ?_
  refine (Ideal.matmul_transposedRhs_apply (M := 32) (K := 128) (N := 8192) none _ _ _ b j).trans ?_
  rw [constant_apply, Ideal.ofBits_zero_f32, zero_add]
  exact Finset.sum_congr rfl fun d _ => congrArg₂ (· * ·) (q_apply fq h b d) (k_apply fk h j d)

/-- The sum of a head's weights, -/
theorem sumV_apply (fq : S32x1x16x128.Idx → EReal) (fk : S256x32x16x128.Idx → EReal) (w : FVec Ideal S32x8192 .f32) (b : Fin 32) (h : Fin 16) :
    (sumV (F := Ideal) fq fk w : S32x16.Idx → EReal) (ix2 b h)
      = ∑ j : Fin 8192, w (ix2 b j) * Ideal.exp (score fq fk b h (tokPage j) (tokPlace j)) := by
  show (sumH (F := Ideal) fq fk w h : S32.Idx → EReal) (ix1 b) = _
  refine (Ideal.multiReduction_add_single (s := S32x8192) (a := (1 : Fin 2)) _ _ _ _ _ _).trans ?_
  refine Finset.sum_congr rfl fun (j : Fin 8192) _ => ?_
  have hl : reduces_S32x8192_S32.lift (ix1 b) j = (ix2 b j : S32x8192.Idx) := by
    funext a; apply Fin.ext
    match a with
    | ⟨0, _⟩ => rfl
    | ⟨1, _⟩ => rfl
  rw [hl, pay5_apply]

/-- and the weighted sum of its values. -/
theorem accV_apply (fq : S32x1x16x128.Idx → EReal) (fk fv : S256x32x16x128.Idx → EReal) (w : FVec Ideal S32x8192 .f32) (b : Fin 32) (h : Fin 16) (d : Fin 128) :
    (accV (F := Ideal) fq fk fv w : S32x16x128.Idx → EReal) (ix3 b h d)
      = ∑ j : Fin 8192, w (ix2 b j) * Ideal.exp (score fq fk b h (tokPage j) (tokPlace j)) * fv (ix4 (tokPage j) (tokPlace j) h d) := by
  have e : accV (F := Ideal) fq fk fv w (ix3 b h d)
      = shapeCast S32x1x128 (matmul dot_S32x8192_S8192x128_S32x128_1_0_0_1_n_n none
        (truncf .bf16 (k0_pay5 (F := Ideal) (qH (F := Ideal) fq h) (kH (F := Ideal) fk h) w) bitsLt_bf16_f32)
        (truncf .bf16 (shapeCast S8192x128 (shapeCast S256x32x128 (kH (F := Ideal) fv h) shapeCasts_S1x256x32x128_S256x32x128) shapeCasts_S256x32x128_S8192x128) bitsLt_bf16_f32)
        (constant S32x128 .f32 0x00000000#32)) shapeCasts_S32x128_S32x1x128 (ix3 b (0 : Fin 1) d) := rfl
  rw [e, shapeCast_apply _ _ _ (ix2 b d : S32x128.Idx) (by
    rw [Shape.rowMajor_val_three, Shape.rowMajor_val_two]
    show b.val * 128 + d.val = (b.val * 1 + 0) * 128 + d.val
    omega)]
  refine (Ideal.matmul_plain_apply (M := 32) (K := 8192) (N := 128) none _ _ _ b d).trans ?_
  rw [constant_apply, Ideal.ofBits_zero_f32, zero_add]
  exact Finset.sum_congr rfl fun j _ => congrArg₂ (· * ·) (pay5_apply fq fk w h b j) (k_apply fv h j d)

end Cert.KernelIdeal.Paged

end
-- ==== Proof.RefValue.lean ====
/-
What the reference computes, read at an element, over exact values: the scores of the pages the table names, of which the dead
positions are lost, their softmax, and the weighted sum of the values.
-/
module

public import proofs.«01_k».proof.Proof.Gen.ReferenceIdeal.Run
public import proofs.«01_k».proof.Proof.HeadValue
public import Idealize.ShloMosaic.PureOps.Ideal.Laws
public import Idealize.ShloMosaic.PureOps.Reduce
public import Idealize.ShloMosaic.Lib.ValueIdx
public import Idealize.ShloMosaic.Lib.TwoAxisContraction
public import Idealize.ShloMosaic.Lib.IdealHost
public import Idealize.ShloMosaic.Lib.Decide

@[expose] public section

noncomputable section

namespace Cert.ReferenceIdeal.Attended

open Cert.ReferenceIdeal Cert.ReferenceIdeal.Gen Cert.Attend
open Cert.KernelIdeal.Paged (score scaleR)
open Idealize.ShloMosaic Idealize.ShloMosaic.TcCoe
open Idealize.ShloMosaic.ValueIdx
open scoped BigOperators

variable (Q : S32x1x16x128.Idx → EReal) (K V : S512x32x16x128.Idx → EReal) (T : S32x256.Idx → BitVec 32) (L : S32x1.Idx → BitVec 32)

/-! ## The reference's stages -/

/-- The pages that the table names, -/
def takenA : FVec Ideal S32x256x32x16x128 .f32 :=
  Host.gather gather_S512x32x16x128_S32x256x1_S32x256x32x16x128_234_0_n_n_0_2_13216128 K
    (broadcastInDim S32x256x1 ![0, 1] bcast_S32x256_S32x256x1_0_1 T)
/-- which entries are live, -/
def liveA : IVec S32x16x1x256x32 1 :=
  broadcastInDim S32x16x1x256x32 ![0, 1, 2, 3, 4] bcast_S32x1x1x256x1_S32x16x1x256x32_0_1_2_3_4
    (broadcastInDim S32x1x1x256x1 ![0, 3] bcast_S32x256_S32x1x1x256x1_0_3
      (cmpi .slt (broadcastInDim S32x256 ![0, 1] bcast_S1x256_S32x256_0_1 (broadcastInDim S1x256 ![1] bcast_S256_S1x256_1 (iotaInDim S256 32 0)))
        (broadcastInDim S32x256 ![0, 1] bcast_S32x1_S32x256_0_1 L)))
/-- the scores, -/
def scoreA : FVec Ideal S32x16x1x256x32 .f32 :=
  mulf (Host.dotGeneral (φ₁ := .f32) (φ₂ := .f32) dot_S32x1x16x128_S32x256x32x16x128_S32x16x1x256x32_3_4_1_12_02_03 none Q (takenA K T))
    (broadcastInDim S32x16x1x256x32 ![] bcast_S_S32x16x1x256x32 (constant S_ .f32 0x3DB504F3#32))
/-- the scores with the dead lost, -/
def maskedA : FVec Ideal S32x16x1x256x32 .f32 :=
  select (liveA L) (scoreA Q K T) (broadcastInDim S32x16x1x256x32 ![] bcast_S_S32x16x1x256x32 (id (constant S_ .f32 0xFF800000#32)))
/-- a row's value at each of its positions, -/
def spreadR (x : FVec Ideal S32x16x1 .f32) : FVec Ideal S32x16x1x256x32 .f32 :=
  broadcastInDim S32x16x1x256x32 ![0, 1, 2, 3, 4] bcast_S32x16x1x1x1_S32x16x1x256x32_0_1_2_3_4
    (broadcastInDim S32x16x1x1x1 ![0, 1, 2] bcast_S32x16x1_S32x16x1x1x1_0_1_2 x)
/-- the greatest score, -/
def maxA : FVec Ideal S32x16x1 .f32 :=
  Host.reduce FloatOps.maximumf (maskedA Q K T L) (constant S_ .f32 0xFF800000#32) reducesTo_S32x16x1x256x32_S32x16x1_d3_4 h_S_
/-- the exponentials, -/
def expA : FVec Ideal S32x16x1x256x32 .f32 := Host.exp (subf (maskedA Q K T L) (spreadR (maxA Q K T L)))
/-- their sum, -/
def sumA : FVec Ideal S32x16x1 .f32 :=
  Host.reduceAdd (expA Q K T L) (constant S_ .f32 0x00000000#32) reducesTo_S32x16x1x256x32_S32x16x1_d3_4 h_S_
/-- the weights, -/
def weightA : FVec Ideal S32x16x1x256x32 .f32 := Host.divf (expA Q K T L) (spreadR (sumA Q K T L))
/-- and the result. -/
def resultA : S32x1x16x128.Idx → EReal :=
  transpose S32x1x16x128 [0, 3, 1, 2]
    (Host.dotGeneral (φ₁ := .f32) (φ₂ := .f32) dot_S32x256x32x16x128_S32x16x1x256x32_S32x16x128x1_21_43_4_2_03_01 none (takenA V T) (weightA Q K T L))
    transposes_S32x16x128x1_S32x1x16x128_0_3_1_2

theorem res_eq (m : (ℓ : Loc nD τ sig) → Buf (Elt Ideal) ℓ) (c : Dev nD) :
    Value.res_main_v22 m c = resultA (m ((c : Thread nD τ).loc main_arg0)) (m ((c : Thread nD τ).loc main_arg1))
      (m ((c : Thread nD τ).loc main_arg2)) (m ((c : Thread nD τ).loc main_arg3)) (m ((c : Thread nD τ).loc main_arg4)) := rfl

/-! ## Read at an element -/

/-- The page that entry `p` of row `b` names, -/
def pageR (b : Fin 32) (p : Fin 256) : Fin 512 := ⟨min (T (ix2 b p)).toInt.toNat 511, by omega⟩
/-- and whether it is live. -/
def liveR (b : Fin 32) (p : Fin 256) : Prop := IntOp.cmpi .slt (BitVec.ofNat 32 p.val) (L (ix2 b (0 : Fin 1))) = 1#1
instance (b : Fin 32) : DecidablePred (liveR L b) := fun _ => inferInstanceAs (Decidable (_ = _))

theorem takenA_apply (b : Fin 32) (p : Fin 256) (k : Fin 32) (h : Fin 16) (d : Fin 128) :
    (takenA K T : S32x256x32x16x128.Idx → EReal) (ix5 b p k h d) = K (ix4 (pageR T b p) k h d) := by
  unfold takenA Host.gather
  refine congrArg K (funext fun a => Fin.ext ?_)
  show GatherDims.start _ _ _ a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S512x32x16x128.rank) ∈ gather_S512x32x16x128_S32x256x1_S32x256x32x16x128_234_0_n_n_0_2_13216128.startIndexMap from List.mem_singleton.mpr rfl),
      broadcastInDim_apply _ _ _ _ (ix2 b p : S32x256.Idx) (by
        intro a; match a with | ⟨0, _⟩ => rfl | ⟨1, _⟩ => rfl)]
    rfl
  | ⟨1, _⟩ =>
    unfold GatherDims.start
    rw [dif_neg (show (⟨1, by decide⟩ : Fin S512x32x16x128.rank) ∉ gather_S512x32x16x128_S32x256x1_S32x256x32x16x128_234_0_n_n_0_2_13216128.startIndexMap by decide), Nat.zero_add]
    rfl
  | ⟨2, _⟩ =>
    unfold GatherDims.start
    rw [dif_neg (show (⟨2, by decide⟩ : Fin S512x32x16x128.rank) ∉ gather_S512x32x16x128_S32x256x1_S32x256x32x16x128_234_0_n_n_0_2_13216128.startIndexMap by decide), Nat.zero_add]
    rfl
  | ⟨3, _⟩ =>
    unfold GatherDims.start
    rw [dif_neg (show (⟨3, by decide⟩ : Fin S512x32x16x128.rank) ∉ gather_S512x32x16x128_S32x256x1_S32x256x32x16x128_234_0_n_n_0_2_13216128.startIndexMap by decide), Nat.zero_add]
    rfl

theorem liveA_apply (b : Fin 32) (h : Fin 16) (p : Fin 256) (k : Fin 32) :
    liveA L (ix5 b h (0 : Fin 1) p k) = IntOp.cmpi .slt (BitVec.ofNat 32 p.val) (L (ix2 b (0 : Fin 1))) := by
  unfold liveA
  rw [broadcastInDim_apply _ _ _ _ (ix5 b (0 : Fin 1) (0 : Fin 1) p (0 : Fin 1) : S32x1x1x256x1.Idx) (by
      intro a; match a with | ⟨0, _⟩ => rfl | ⟨1, _⟩ => rfl | ⟨2, _⟩ => rfl | ⟨3, _⟩ => rfl | ⟨4, _⟩ => rfl),
    broadcastInDim_apply _ _ _ _ (ix2 b p : S32x256.Idx) (by
      intro a; match a with | ⟨0, _⟩ => rfl | ⟨1, _⟩ => rfl)]
  refine congrArg₂ (IntOp.cmpi .slt) ?_ ?_
  · rw [broadcastInDim_apply _ _ _ _ (ix2 (0 : Fin 1) p : S1x256.Idx) (by
        intro a; match a with | ⟨0, _⟩ => rfl | ⟨1, _⟩ => rfl),
      broadcastInDim_apply _ _ _ _ (ix1 p : S256.Idx) (by
        intro a; match a with | ⟨0, _⟩ => rfl)]
    rfl
  · exact broadcastInDim_apply _ _ _ _ (ix2 b (0 : Fin 1) : S32x1.Idx) (by
      intro a; match a with | ⟨0, _⟩ => rfl | ⟨1, _⟩ => rfl)

theorem scoreA_apply (b : Fin 32) (h : Fin 16) (p : Fin 256) (k : Fin 32) :
    (scoreA Q K T : S32x16x1x256x32.Idx → EReal) (ix5 b h (0 : Fin 1) p k) = score Q K b h (pageR T b p) k := by
  unfold scoreA score
  rw [mulf_apply, broadcastInDim_scalar_apply, constant_apply]
  refine congrArg (· * scaleR) ?_
  simp only [Host.dotGeneral]
  rw [Ideal.dotGeneral_apply, ← Equiv.sum_comp (contrEquiv1 dot_S32x1x16x128_S32x256x32x16x128_S32x16x1x256x32_3_4_1_12_02_03 128 rfl rfl).symm]
  refine Finset.sum_congr rfl fun d _ => ?_
  refine congrArg₂ (· * ·) (congrArg Q ?_) ?_
  · funext a; apply Fin.ext
    match a with
    | ⟨0, _⟩ => rfl
    | ⟨1, _⟩ => rfl
    | ⟨2, _⟩ => rfl
    | ⟨3, _⟩ => exact contrEquiv1_symm_val dot_S32x1x16x128_S32x256x32x16x128_S32x16x1x256x32_3_4_1_12_02_03 128 rfl rfl d
  · refine (congrArg (takenA K T) ?_).trans (takenA_apply K T b p k h d)
    funext a; apply Fin.ext
    match a with
    | ⟨0, _⟩ => rfl
    | ⟨1, _⟩ => rfl
    | ⟨2, _⟩ => rfl
    | ⟨3, _⟩ => rfl
    | ⟨4, _⟩ => exact contrEquiv1_symm_val dot_S32x1x16x128_S32x256x32x16x128_S32x16x1x256x32_3_4_1_12_02_03 128 rfl rfl d

/-- The pattern of minus infinity. -/
theorem negInf : Ideal.ofBits .f32 0xFF800000#32 = ⊥ := by simp [Ideal.ofBits, Ideal.ieee]

theorem maskedA_apply (b : Fin 32) (h : Fin 16) (p : Fin 256) (k : Fin 32) :
    (maskedA Q K T L : S32x16x1x256x32.Idx → EReal) (ix5 b h (0 : Fin 1) p k) = if liveR L b p then score Q K b h (pageR T b p) k else ⊥ := by
  unfold maskedA
  rw [select_apply, liveA_apply, scoreA_apply, broadcastInDim_scalar_apply]
  show (if _ = 1#1 then _ else Ideal.ofBits .f32 0xFF800000#32) = _
  rw [negInf]
  rfl

theorem spreadR_apply (x : FVec Ideal S32x16x1 .f32) (b : Fin 32) (h : Fin 16) (p : Fin 256) (k : Fin 32) :
    spreadR x (ix5 b h (0 : Fin 1) p k) = x (ix3 b h (0 : Fin 1)) := by
  unfold spreadR
  rw [broadcastInDim_apply _ _ _ _ (ix5 b h (0 : Fin 1) (0 : Fin 1) (0 : Fin 1) : S32x16x1x1x1.Idx) (by
      intro a; match a with | ⟨0, _⟩ => rfl | ⟨1, _⟩ => rfl | ⟨2, _⟩ => rfl | ⟨3, _⟩ => rfl | ⟨4, _⟩ => rfl),
    broadcastInDim_apply _ _ _ _ (ix3 b h (0 : Fin 1) : S32x16x1.Idx) (by
      intro a; match a with | ⟨0, _⟩ => rfl | ⟨1, _⟩ => rfl | ⟨2, _⟩ => rfl)]

/-- The entry of a position, -/
def posP (i : S32x16x1x256x32.Idx) : Fin 256 := i 3
/-- and its place in the page. -/
def posK (i : S32x16x1x256x32.Idx) : Fin 32 := i 4

/-- The positions of row `b` and head `h`. -/
theorem drop_iff (i : S32x16x1x256x32.Idx) (b : Fin 32) (h : Fin 16) :
    reducesTo_S32x16x1x256x32_S32x16x1_d3_4.drop i = ix3 b h (0 : Fin 1) ↔ i = ix5 b h (0 : Fin 1) (posP i) (posK i) := by
  have e0 := reducesTo_S32x16x1x256x32_S32x16x1_d3_4.drop_apply_val_of_eq i 0 0
  have e1 := reducesTo_S32x16x1x256x32_S32x16x1_d3_4.drop_apply_val_of_eq i 1 1
  refine ⟨fun e => ?_, fun e => ?_⟩
  · rw [e] at e0 e1
    funext a; apply Fin.ext
    match a with
    | ⟨0, _⟩ => exact e0.symm
    | ⟨1, _⟩ => exact e1.symm
    | ⟨2, _⟩ => exact congrArg Fin.val (Subsingleton.elim (α := Fin 1) (i 2) 0)
    | ⟨3, _⟩ => rfl
    | ⟨4, _⟩ => rfl
  · funext a; apply Fin.ext
    match a with
    | ⟨0, _⟩ => exact e0.trans (congrArg (fun j : S32x16x1x256x32.Idx => (j 0).val) e)
    | ⟨1, _⟩ => exact e1.trans (congrArg (fun j : S32x16x1x256x32.Idx => (j 1).val) e)
    | ⟨2, _⟩ => exact congrArg Fin.val (Subsingleton.elim (α := Fin 1) _ 0)

/-- A sum over them. -/
theorem sum_positions (f : S32x16x1x256x32.Idx → EReal) (b : Fin 32) (h : Fin 16) :
    (∑ i ∈ Finset.univ.filter (fun i => reducesTo_S32x16x1x256x32_S32x16x1_d3_4.drop i = ix3 b h (0 : Fin 1)), f i)
      = ∑ z : Fin 256 × Fin 32, f (ix5 b h (0 : Fin 1) z.1 z.2) := by
  refine Finset.sum_bij' (fun i _ => (posP i, posK i)) (fun z _ => ix5 b h (0 : Fin 1) z.1 z.2)
    (fun _ _ => Finset.mem_univ _) (fun z _ => Finset.mem_filter.2 ⟨Finset.mem_univ _, (drop_iff _ b h).2 rfl⟩) ?_ (fun _ _ => rfl) ?_
  · exact fun i hi => ((drop_iff i b h).1 (Finset.mem_filter.1 hi).2).symm
  · exact fun i hi => congrArg f ((drop_iff i b h).1 (Finset.mem_filter.1 hi).2)

/-- The greatest score of a row with a live entry is a real, if the scores are. -/
theorem maxA_real (hs : ∀ b h n k, ∃ r : ℝ, score Q K b h n k = (r : EReal)) (b : Fin 32) (h : Fin 16) (p₀ : Fin 256) (h₀ : liveR L b p₀) :
    ∃ μ : ℝ, maxA Q K T L (ix3 b h (0 : Fin 1)) = (μ : EReal) := by
  unfold maxA
  rw [Host.reduce_eq_foldl]
  show ∃ μ : ℝ, List.foldl (fun r i => max r ((maskedA Q K T L : S32x16x1x256x32.Idx → EReal) i)) (Ideal.ofBits .f32 0xFF800000#32) _ = _
  rw [negInf]
  refine foldl_max_real _ _ (fun i hi => ?_) (ix5 b h (0 : Fin 1) p₀ (0 : Fin 32)) ?_ ?_
  · have e := (drop_iff i b h).1 (of_decide_eq_true (List.mem_filter.1 hi).2)
    obtain ⟨r, hr⟩ := hs b h (pageR T b (posP i)) (posK i)
    rw [e, maskedA_apply]
    by_cases hl : liveR L b (posP i)
    · rw [if_pos hl, hr]; exact EReal.coe_ne_top r
    · rw [if_neg hl]; exact bot_ne_top
  · refine List.mem_filter.2 ⟨List.mem_map.2 ⟨S32x16x1x256x32.rowMajor (ix5 b h (0 : Fin 1) p₀ (0 : Fin 32)), List.mem_finRange _, Equiv.symm_apply_apply _ _⟩, ?_⟩
    exact decide_eq_true ((drop_iff _ b h).2 rfl)
  · obtain ⟨r, hr⟩ := hs b h (pageR T b p₀) 0
    rw [maskedA_apply, if_pos h₀, hr]
    exact EReal.coe_ne_bot r

theorem expA_apply (b : Fin 32) (h : Fin 16) (p : Fin 256) (k : Fin 32) :
    (expA Q K T L : S32x16x1x256x32.Idx → EReal) (ix5 b h (0 : Fin 1) p k)
      = Ideal.exp ((if liveR L b p then score Q K b h (pageR T b p) k else ⊥) - (maxA Q K T L : S32x16x1.Idx → EReal) (ix3 b h (0 : Fin 1))) := by
  rw [← maskedA_apply, ← spreadR_apply (maxA Q K T L) b h p k]
  rfl

theorem sumA_apply (b : Fin 32) (h : Fin 16) :
    (sumA Q K T L : S32x16x1.Idx → EReal) (ix3 b h (0 : Fin 1)) = ∑ z : Fin 256 × Fin 32, (expA Q K T L : S32x16x1x256x32.Idx → EReal) (ix5 b h (0 : Fin 1) z.1 z.2) := by
  unfold sumA
  rw [hostReduceAdd_apply, Ideal.hostReduceAdd, constant_apply, Ideal.ofBits_zero_f32, zero_add, sum_positions]

theorem resultA_apply (b : Fin 32) (h : Fin 16) (d : Fin 128) :
    resultA Q K V T L (ix4 b (0 : Fin 1) h d)
      = ∑ z : Fin 256 × Fin 32, V (ix4 (pageR T b z.1) z.2 h d) * (weightA Q K T L : S32x16x1x256x32.Idx → EReal) (ix5 b h (0 : Fin 1) z.1 z.2) := by
  unfold resultA
  rw [transpose_apply _ _ _ _ (ix4 b h d (0 : Fin 1) : S32x16x128x1.Idx) (by
    intro a; match a with | ⟨0, _⟩ => rfl | ⟨1, _⟩ => rfl | ⟨2, _⟩ => rfl | ⟨3, _⟩ => rfl)]
  simp only [Host.dotGeneral]
  rw [Ideal.dotGeneral_apply, sum_contr2 dot_S32x256x32x16x128_S32x16x1x256x32_S32x16x128x1_21_43_4_2_03_01 32 256 rfl rfl rfl, Finset.sum_comm, Fintype.sum_prod_type]
  refine Finset.sum_congr rfl fun p _ => Finset.sum_congr rfl fun k _ => ?_
  refine congrArg₂ (· * ·) ?_ (congrArg (weightA Q K T L) ?_)
  · refine (congrArg (takenA V T) ?_).trans (takenA_apply V T b p k h d)
    funext a; apply Fin.ext
    match a with
    | ⟨0, _⟩ => rfl
    | ⟨1, _⟩ => exact contrEquiv2_symm_val1 dot_S32x256x32x16x128_S32x16x1x256x32_S32x16x128x1_21_43_4_2_03_01 32 256 rfl rfl rfl (k, p)
    | ⟨2, _⟩ => exact contrEquiv2_symm_val0 dot_S32x256x32x16x128_S32x16x1x256x32_S32x16x128x1_21_43_4_2_03_01 32 256 rfl rfl rfl (k, p)
    | ⟨3, _⟩ => rfl
    | ⟨4, _⟩ => rfl
  · funext a; apply Fin.ext
    match a with
    | ⟨0, _⟩ => rfl
    | ⟨1, _⟩ => rfl
    | ⟨2, _⟩ => rfl
    | ⟨3, _⟩ => exact contrEquiv2_symm_val1 dot_S32x256x32x16x128_S32x16x1x256x32_S32x16x128x1_21_43_4_2_03_01 32 256 rfl rfl rfl (k, p)
    | ⟨4, _⟩ => exact contrEquiv2_symm_val0 dot_S32x256x32x16x128_S32x16x1x256x32_S32x16x128x1_21_43_4_2_03_01 32 256 rfl rfl rfl (k, p)

/-- The result is the quotient of the sums over the live entries' tokens, no greatest score taken off. -/
theorem resultA_eq (s : Fin 512 → Fin 32 → ℝ) (b : Fin 32) (h : Fin 16) (d : Fin 128) (hs : ∀ b h n k, ∃ r : ℝ, score Q K b h n k = (r : EReal))
    (hb : ∀ n k, score Q K b h n k = (s n k : EReal)) (p₀ : Fin 256) (h₀ : liveR L b p₀) :
    resultA Q K V T L (ix4 b (0 : Fin 1) h d)
      = Ideal.div (∑ p, ∑ k, if liveR L b p then ((Real.exp (s (pageR T b p) k) : ℝ) : EReal) * V (ix4 (pageR T b p) k h d) else 0)
          (∑ p, ∑ k, if liveR L b p then ((Real.exp (s (pageR T b p) k) : ℝ) : EReal) else 0) := by
  obtain ⟨μ, hμ⟩ := maxA_real Q K T L hs b h p₀ h₀
  have he : ∀ z : Fin 256 × Fin 32, (expA Q K T L : S32x16x1x256x32.Idx → EReal) (ix5 b h (0 : Fin 1) z.1 z.2)
      = Ideal.exp ((if liveR L b z.1 then ((s (pageR T b z.1) z.2 : ℝ) : EReal) else ⊥) - (μ : EReal)) := fun z => by
    rw [expA_apply, hμ, hb]
  have hw : ∀ z : Fin 256 × Fin 32, (weightA Q K T L : S32x16x1x256x32.Idx → EReal) (ix5 b h (0 : Fin 1) z.1 z.2)
      = Ideal.div (Ideal.exp ((if liveR L b z.1 then ((s (pageR T b z.1) z.2 : ℝ) : EReal) else ⊥) - (μ : EReal)))
          (∑ z : Fin 256 × Fin 32, Ideal.exp ((if liveR L b z.1 then ((s (pageR T b z.1) z.2 : ℝ) : EReal) else ⊥) - (μ : EReal))) := fun z => by
    unfold weightA
    rw [hostDivf_apply, spreadR_apply, sumA_apply, he z]
    exact congrArg _ (Finset.sum_congr rfl fun z _ => he z)
  rw [resultA_apply, Finset.sum_congr rfl fun z _ => congrArg (V (ix4 (pageR T b z.1) z.2 h d) * ·) (hw z)]
  refine (softmax (fun z : Fin 256 × Fin 32 => liveR L b z.1) (fun z => s (pageR T b z.1) z.2)
    (fun z => V (ix4 (pageR T b z.1) z.2 h d)) (p₀, 0) h₀ μ).trans ?_
  rw [Fintype.sum_prod_type, Fintype.sum_prod_type]

end Cert.ReferenceIdeal.Attended

end
-- ==== Proof.Value.lean ====
/-
The kernel's result is the reference's, over exact values: the precondition read off, the words the kernel computes, and the
two halves' sums put together.
-/
module

public import proofs.«01_k».proof.Defs
public import proofs.«01_k».proof.Proof.Exchange
public import proofs.«01_k».proof.Proof.RefValue
public import Idealize.ShloMosaic.Lib.WordCmp
public import Idealize.ShloMosaic.Lib.Layout

@[expose] public section

noncomputable section

namespace Cert.KernelIdeal.Paged

open Cert.KernelIdeal Cert.KernelIdeal.Gen Cert.Attend
open Cert.ReferenceIdeal.Attended (pageR liveR resultA resultA_eq)
open Idealize.ShloMosaic Idealize.ShloMosaic.TcCoe
open Idealize.ShloMosaic.ValueIdx
open scoped BigOperators

/-! ## The precondition -/

section Pre
variable [Cert.Pre_table_ok_KernelIdeal.Facts]
variable (x0 : S32x1x16x128.Idx → EReal) (x1 x2 : S256x32x16x128.Idx → EReal) (x3 : S32x256.Idx → BitVec 32) (x4 : S32x1.Idx → BitVec 32)

/-- The pattern of infinity. -/
theorem posInf : Ideal.ofBits .f32 0x7F800000#32 = ⊤ := by simp [Ideal.ofBits, Ideal.ieee]

/-- A number less than infinity in absolute value is a real. -/
theorem real_of_abs (x : EReal) (h : Ideal.cmp .olt (max x (-x)) (Ideal.ofBits .f32 0x7F800000#32) = 1#1) : ∃ r : ℝ, x = (r : EReal) := by
  have h' : max x (-x) < ⊤ := by
    rw [posInf] at h
    exact (WordCmp.ofBool_decide_eq_one_iff _).1 h
  refine ⟨x.toReal, (EReal.coe_toReal (fun e => ?_) (fun e => ?_)).symm⟩
  · rw [e] at h'; exact absurd (lt_of_le_of_lt (le_max_left _ _) h') (lt_irrefl _)
  · rw [e, EReal.neg_bot] at h'; exact absurd (lt_of_le_of_lt (le_max_right _ _) h') (lt_irrefl _)

theorem pre_q (h : (Cert.Pre_table_ok_KernelIdeal.fn (F := Ideal) x0 x1 x2 x3 x4).1 = fun _ => 1#1) (i : S32x1x16x128.Idx) :
    ∃ r : ℝ, x0 i = (r : EReal) := real_of_abs _ (congrFun h i)

theorem pre_k (h : (Cert.Pre_table_ok_KernelIdeal.fn (F := Ideal) x0 x1 x2 x3 x4).2.1 = fun _ => 1#1) (i : S256x32x16x128.Idx) :
    ∃ r : ℝ, x1 i = (r : EReal) := real_of_abs _ (congrFun h i)

theorem pre_lens (h : (Cert.Pre_table_ok_KernelIdeal.fn (F := Ideal) x0 x1 x2 x3 x4).2.2.1 = fun _ => 1#1) (b : Fin 32) :
    1 ≤ (x4 (ix2 b (0 : Fin 1))).toInt :=
  IntOp.cmpi_sge.1 (show IntOp.cmpi .sge (x4 (ix2 b (0 : Fin 1))) 1#32 = 1#1 from congrFun h (ix2 b (0 : Fin 1)))

theorem pre_table (h : (Cert.Pre_table_ok_KernelIdeal.fn (F := Ideal) x0 x1 x2 x3 x4).2.2.2 = fun _ => 1#1) (b : Fin 32) (p : Fin 256)
    (hl : liveR x4 b p) : 0 ≤ (x3 (ix2 b p)).toInt ∧ (x3 (ix2 b p)).toInt < 512 := by
  have e : IntOp.ori (IntOp.cmpi .sge (BitVec.ofNat 32 p.val) (x4 (ix2 b (0 : Fin 1))))
      (IntOp.andi (IntOp.cmpi .sge (x3 (ix2 b p)) 0#32) (IntOp.cmpi .slt (x3 (ix2 b p)) 512#32)) = 1#1 := by
    refine Eq.trans ?_ (congrFun h (ix2 b p))
    refine congrArg₂ IntOp.ori (congrArg₂ (IntOp.cmpi .sge) ?_ ?_) rfl
    · refine Eq.symm ((broadcastInDim_apply _ _ _ _ (ix2 (0 : Fin 1) p : Cert.Pre_table_ok_KernelIdeal.S1x256.Idx) ?_).trans
        (broadcastInDim_apply _ _ _ _ (ix1 p : Cert.Pre_table_ok_KernelIdeal.S256.Idx) ?_))
      · intro a; match a with | ⟨0, _⟩ => rfl | ⟨1, _⟩ => rfl
      · intro a; match a with | ⟨0, _⟩ => rfl
    · refine Eq.symm (broadcastInDim_apply _ _ _ _ (ix2 b (0 : Fin 1) : S32x1.Idx) ?_)
      intro a; match a with | ⟨0, _⟩ => rfl | ⟨1, _⟩ => rfl
  rcases IntOp.ori_eq_one.1 e with e | e
  · have h1 := IntOp.cmpi_sge.1 e
    have h2 := IntOp.cmpi_slt.1 hl
    omega
  · have h1 := IntOp.cmpi_sge.1 (IntOp.andi_eq_one.1 e).1
    have h2 := IntOp.cmpi_slt.1 (IntOp.andi_eq_one.1 e).2
    exact ⟨h1, h2⟩

end Pre

/-! ## The words -/

/-- The half of the pages that a device holds. -/
def half (c : Dev nD) : Fin 2 := ⟨c.val / 4 % 2, Nat.mod_lt _ (by decide)⟩

theorem yw_eq (c : Dev nD) : yw c = BitVec.ofNat 32 (half c).val := by revert c; decide
theorem half_peer (c : Dev nD) : half (peer c) = 1 - half c := by revert c; decide

/-- The number of a device's page in the whole, as the kernel computes it. -/
theorem page_word (y : Fin 2) (i : Fin 256) :
    IntOp.addi (BitVec.ofNat 32 i.val) (Scalar.muli (BitVec.ofNat 32 y.val) 256#32) = BitVec.ofNat 32 (pageOf y i).val := by
  revert y i; decide +kernel

/-- The kernel's bit says that a live entry names the page. -/
theorem hitBit_iff (T : S32x256.Idx → BitVec 32) (L : S32x1.Idx → BitVec 32) (b : Fin 32) (p : Fin 256) (y : Fin 2) (i : Fin 256)
    (hT : liveR L b p → 0 ≤ (T (ix2 b p)).toInt ∧ (T (ix2 b p)).toInt < 512) :
    hitBit (BitVec.ofNat 32 y.val) (T (ix2 b p)) (L (ix2 b (0 : Fin 1))) p i = 1#1 ↔ liveR L b p ∧ pageR T b p = pageOf y i := by
  unfold hitBit
  rw [IntOp.andi_eq_one, page_word, IntOp.cmpi_eq, and_comm]
  refine and_congr_right fun hl => ?_
  obtain ⟨h0, h1⟩ := hT hl
  have hn := (pageOf y i).isLt
  have hw := (T (ix2 b p)).isLt
  rw [BitVec.toInt_eq_toNat_cond] at h0 h1
  have hv : (pageR T b p).val = (T (ix2 b p)).toNat := by
    show min (T (ix2 b p)).toInt.toNat 511 = _
    rw [BitVec.toInt_eq_toNat_cond]
    split at h0 <;> split at h1 <;> split <;> omega
  refine ⟨fun e => Fin.ext ?_, fun e => BitVec.eq_of_toNat_eq ?_⟩
  · rw [hv, e, BitVec.toNat_ofNat, Nat.mod_eq_of_lt (by omega)]
  · rw [BitVec.toNat_ofNat, Nat.mod_eq_of_lt (by omega), ← hv, e]

/-! ## The blocks -/

/-- A device's pages are its half of the whole. -/
theorem block_apply (K : (⟨4, ![512, 32, 16, 128]⟩ : Shape).Idx → EReal) (c : Dev nD) (i : Fin 256) (k : Fin 32) (h : Fin 16) (d : Fin 128) :
    (Layout.blockN ⟨4, ![256, 32, 16, 128]⟩ ⟨4, ![512, 32, 16, 128]⟩ (Layout.meshBlock [2, 2, 4] ![[1], [], [], []] c) K : S256x32x16x128.Idx → EReal) (ix4 i k h d)
      = K (ix4 (pageOf (half c) i) k h d) := by
  rw [Layout.blockN_apply]
  refine congrArg K (funext fun a => Fin.ext ?_)
  rw [Layout.TilesN.idx_val, Layout.meshBlock_val]
  match a with
  | ⟨0, _⟩ =>
    have e : Layout.meshLin [2, 2, 4] c.val [1] = (half c).val := by revert c; decide
    show Layout.meshLin [2, 2, 4] c.val [1] * 256 + i.val = i.val + (half c).val * 256
    rw [e]; omega
  | ⟨1, _⟩ =>
    show Layout.meshLin [2, 2, 4] c.val [] * 32 + k.val = k.val
    have e : Layout.meshLin [2, 2, 4] c.val [] = 0 := rfl
    rw [e]; omega
  | ⟨2, _⟩ =>
    show Layout.meshLin [2, 2, 4] c.val [] * 16 + h.val = h.val
    have e : Layout.meshLin [2, 2, 4] c.val [] = 0 := rfl
    rw [e]; omega
  | ⟨3, _⟩ =>
    show Layout.meshLin [2, 2, 4] c.val [] * 128 + d.val = d.val
    have e : Layout.meshLin [2, 2, 4] c.val [] = 0 := rfl
    rw [e]; omega

/-! ## The scores -/

theorem scale_real : ∃ r : ℝ, scaleR = (r : EReal) := by
  unfold scaleR
  exact ⟨_, by simp [Ideal.ofBits, Ideal.ieee]; rfl⟩

/-- Of reals a score is a real. -/
theorem score_real {N : ℕ} (fq : S32x1x16x128.Idx → EReal) (fk : (⟨4, ![N, 32, 16, 128]⟩ : Shape).Idx → EReal)
    (hq : ∀ b h d, ∃ r : ℝ, fq (ix4 b (0 : Fin 1) h d) = (r : EReal)) (hk : ∀ n k h d, ∃ r : ℝ, fk (ix4 n k h d) = (r : EReal))
    (b : Fin 32) (h : Fin 16) (n : Fin N) (k : Fin 32) : ∃ r : ℝ, score fq fk b h n k = (r : EReal) := by
  obtain ⟨s, hs⟩ := scale_real
  choose q hq using hq
  choose x hx using hk
  refine ⟨(∑ d, q b h d * x n k h d) * s, ?_⟩
  unfold score
  rw [hs, EReal.coe_mul, ← sum_coe]
  refine congrArg (· * (s : EReal)) (Finset.sum_congr rfl fun d _ => ?_)
  rw [hq, hx, EReal.coe_mul]

/-! ## The result -/

/-- The quotient of the two sums at an element. -/
theorem quotient_apply (l rl : FVec Ideal S32x16 .f32) (acc racc : FVec Ideal S32x16x128 .f32) (b : Fin 32) (h : Fin 16) (d : Fin 128) :
    (k0_pay1 (F := Ideal) (k0_pay77 l rl acc racc) : S32x1x16x128.Idx → EReal) (ix4 b (0 : Fin 1) h d)
      = Ideal.div ((acc : S32x16x128.Idx → EReal) (ix3 b h d) + (racc : S32x16x128.Idx → EReal) (ix3 b h d))
          ((l : S32x16.Idx → EReal) (ix2 b h) + (rl : S32x16.Idx → EReal) (ix2 b h)) := by
  have e : k0_pay1 (F := Ideal) (k0_pay77 l rl acc racc) = shapeCast S32x1x16x128 (divf (addf acc racc)
      (broadcastTo S32x16x128 (shapeCast S32x16x1 (addf l rl) shapeCasts_S32x16_S32x16x1) broadcasts_S32x16x1_S32x16x128))
      shapeCasts_S32x16x128_S32x1x16x128 := rfl
  rw [e, shapeCast_apply _ _ _ (ix3 b h d : S32x16x128.Idx) (by
    rw [Shape.rowMajor_val_three, Shape.rowMajor_val_four]
    show (b.val * 16 + h.val) * 128 + d.val = ((b.val * 1 + 0) * 16 + h.val) * 128 + d.val
    omega), divf_apply]
  refine congrArg (Ideal.div _) ?_
  rw [broadcastTo_apply _ _ _ (ix3 b h (0 : Fin 1) : S32x16x1.Idx) (by
    intro a; match a with | ⟨0, _⟩ => rfl | ⟨1, _⟩ => rfl | ⟨2, _⟩ => rfl)]
  rw [shapeCast_apply _ _ _ (ix2 b h : S32x16.Idx) (by
    rw [Shape.rowMajor_val_three, Shape.rowMajor_val_two]
    show b.val * 16 + h.val = (b.val * 16 + h.val) * 1 + 0
    omega), addf_apply]

/-- The kernel's result at an element. -/
theorem outAt_apply (m : (ℓ : Loc nD τ sig) → Buf (Elt Ideal) ℓ) (c : Dev nD) (b : Fin 32) (h : Fin 16) (d : Fin 128) :
    (outAt m c : S32x1x16x128.Idx → EReal) (ix4 b (0 : Fin 1) h d)
      = Ideal.div ((accF m c : S32x16x128.Idx → EReal) (ix3 b h d) + (accF m (peer c) : S32x16x128.Idx → EReal) (ix3 b h d))
          ((sumF m c : S32x16.Idx → EReal) (ix2 b h) + (sumF m (peer c) : S32x16.Idx → EReal) (ix2 b h)) :=
  quotient_apply (sumF m c) (sumF m (peer c)) (accF m c) (accF m (peer c)) b h d

/-- On every device the kernel's result is the reference's. -/
theorem value_eq [Cert.Pre_table_ok_KernelIdeal.Facts] (m : (ℓ : Loc nD τ sig) → Buf (Elt Ideal) ℓ) (Q : S32x1x16x128.Idx → EReal)
    (K V : (⟨4, ![512, 32, 16, 128]⟩ : Shape).Idx → EReal) (T : S32x256.Idx → BitVec 32) (L : S32x1.Idx → BitVec 32)
    (hpre : Cert.Pre_KernelIdeal_table_ok_KernelIdeal m)
    (h0 : ∀ c : Dev nD, m ((c : Thread nD τ).loc main_arg0) = Q)
    (h1 : ∀ c : Dev nD, m ((c : Thread nD τ).loc main_arg1) = Layout.blockN ⟨4, ![256, 32, 16, 128]⟩ ⟨4, ![512, 32, 16, 128]⟩ (Layout.meshBlock [2, 2, 4] ![[1], [], [], []] c) K)
    (h2 : ∀ c : Dev nD, m ((c : Thread nD τ).loc main_arg2) = Layout.blockN ⟨4, ![256, 32, 16, 128]⟩ ⟨4, ![512, 32, 16, 128]⟩ (Layout.meshBlock [2, 2, 4] ![[1], [], [], []] c) V)
    (h3 : ∀ c : Dev nD, m ((c : Thread nD τ).loc main_arg3) = T)
    (h4 : ∀ c : Dev nD, m ((c : Thread nD τ).loc main_arg4) = L)
    (c : Dev nD) : outAt m c = resultA Q K V T L := by
  have hQ : ∀ b h d, ∃ r : ℝ, Q (ix4 b (0 : Fin 1) h d) = (r : EReal) := fun b h d => by
    rw [← h0 0]; exact pre_q _ _ _ _ _ (hpre 0).1 _
  have hK : ∀ n k h d, ∃ r : ℝ, K (ix4 n k h d) = (r : EReal) := fun n k h d => by
    obtain ⟨c, i, hi⟩ : ∃ (c : Dev nD) (i : Fin 256), n = pageOf (half c) i := by
      by_cases hn : n.val < 256
      · exact ⟨0, ⟨n.val, hn⟩, Fin.ext (by show n.val = n.val + 0 * 256; omega)⟩
      · exact ⟨4, ⟨n.val - 256, by omega⟩, Fin.ext (by show n.val = n.val - 256 + 1 * 256; omega)⟩
    rw [hi, ← block_apply K c, ← h1 c]
    exact pre_k _ _ _ _ _ (hpre c).2.1 _
  have hL : ∀ b, 1 ≤ (L (ix2 b (0 : Fin 1))).toInt := fun b => by
    rw [← h4 0]; exact pre_lens _ _ _ _ _ (hpre 0).2.2.1 b
  have hT : ∀ b p, liveR L b p → 0 ≤ (T (ix2 b p)).toInt ∧ (T (ix2 b p)).toInt < 512 := fun b p hl => by
    rw [← h4 0] at hl
    rw [← h3 0]; exact pre_table _ _ _ _ _ (hpre 0).2.2.2 b p hl
  have hS := score_real Q K hQ hK
  funext i
  obtain ⟨b, h, d, rfl⟩ : ∃ (b : Fin 32) (h : Fin 16) (d : Fin 128), i = ix4 b (0 : Fin 1) h d :=
    ⟨i 0, i 2, i 3, funext fun a => Fin.ext (by
      match a with
      | ⟨0, _⟩ => rfl
      | ⟨1, _⟩ => exact congrArg Fin.val (Subsingleton.elim (α := Fin 1) (i 1) 0)
      | ⟨2, _⟩ => rfl
      | ⟨3, _⟩ => rfl)⟩
  choose s hs using hS b h
  have hsc : ∀ (c : Dev nD) (i : Fin 256) (k : Fin 32),
      Ideal.exp (score (N := 256) (m ((c : Thread nD τ).loc main_arg0)) (m ((c : Thread nD τ).loc main_arg1)) b h i k)
        = ((Real.exp (s (pageOf (half c) i) k) : ℝ) : EReal) := fun c i k => by
    have e : score (N := 256) (m ((c : Thread nD τ).loc main_arg0)) (m ((c : Thread nD τ).loc main_arg1)) b h i k
        = score Q K b h (pageOf (half c) i) k := by
      unfold score
      rw [h0, h1]
      simp only [block_apply]
    rw [e, hs]
    rfl
  have hw : ∀ (c : Dev nD) (j : Fin 8192), (wF m c : S32x8192.Idx → EReal) (ix2 b j)
      = ((hits (liveR L b) (pageR T b) (pageOf (half c) (tokPage j)) : ℝ) : EReal) := fun c j => by
    unfold wF
    rw [wv_apply, yw_eq, h3, h4, hits]
    refine congrArg (fun n : ℕ => ((n : ℝ) : EReal)) (congrArg Finset.card (Finset.filter_congr fun p _ => ?_))
    exact hitBit_iff T L b p (half c) (tokPage j) (hT b p)
  have hsum : ∀ c : Dev nD, (sumF m c : S32x16.Idx → EReal) (ix2 b h)
      = ∑ j, ((hits (liveR L b) (pageR T b) (pageOf (half c) (tokPage j)) : ℝ) : EReal) * ((Real.exp (s (pageOf (half c) (tokPage j)) (tokPlace j)) : ℝ) : EReal) := fun c => by
    unfold sumF
    rw [sumV_apply]
    exact Finset.sum_congr rfl fun j _ => congrArg₂ (· * ·) (hw c j) (hsc c _ _)
  have hacc : ∀ c : Dev nD, (accF m c : S32x16x128.Idx → EReal) (ix3 b h d)
      = ∑ j, ((hits (liveR L b) (pageR T b) (pageOf (half c) (tokPage j)) : ℝ) : EReal)
          * (((Real.exp (s (pageOf (half c) (tokPage j)) (tokPlace j)) : ℝ) : EReal) * V (ix4 (pageOf (half c) (tokPage j)) (tokPlace j) h d)) := fun c => by
    unfold accF
    rw [accV_apply]
    refine Finset.sum_congr rfl fun j _ => ?_
    rw [← block_apply V c, ← h2 c, ← mul_assoc]
    exact congrArg (· * _) (congrArg₂ (· * ·) (hw c j) (hsc c _ _))
  have two : ∀ (x : Fin 512 → Fin 32 → EReal) (G : Dev nD → EReal)
      (hG : ∀ c, G c = ∑ j, ((hits (liveR L b) (pageR T b) (pageOf (half c) (tokPage j)) : ℝ) : EReal) * x (pageOf (half c) (tokPage j)) (tokPlace j)),
      G c + G (peer c) = ∑ p, ∑ k, if liveR L b p then x (pageR T b p) k else 0 := fun x G hG => by
    have e := sum_two (liveR L b) (pageR T b) x _ fun _ => rfl
    rw [hG, hG, half_peer, ← e]
    rcases (by decide : ∀ y : Fin 2, y = 0 ∨ y = 1) (half c) with hy | hy
    · rw [hy]; rfl
    · rw [hy]; exact add_comm _ _
  rw [outAt_apply, two (fun n k => ((Real.exp (s n k) : ℝ) : EReal)) _ hsum,
    two (fun n k => ((Real.exp (s n k) : ℝ) : EReal) * V (ix4 n k h d)) _ hacc]
  refine (resultA_eq Q K V T L s b h d hS hs (0 : Fin 256) ?_).symm
  exact IntOp.cmpi_slt.2 (lt_of_lt_of_le (by decide) (hL b))

end Cert.KernelIdeal.Paged

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Kernel.Run
public import proofs.«01_k».proof.Proof.Value

@[expose] public section

noncomputable section

namespace Cert.Proof

open Idealize.ShloMosaic Idealize.SL.Sem

/-- The kernel's run, its arguments kept and its counters zero at the end. -/
theorem frame_kernel : Cert.quiescent_Kernel := fun m ρ _ =>
  (θ_run Cert.Kernel.defs _ _).mono (fun _ h => ⟨fun c => (h.1 c).2.1, h.2⟩) (Cert.Kernel.Paged.run_main (F := Bits) m ρ)

/-- The same of the kernel at exact values. -/
theorem frame_ideal : Cert.quiescent_KernelIdeal := fun m ρ _ =>
  (θ_run Cert.KernelIdeal.defs _ _).mono (fun _ h => ⟨fun c => (h.1 c).2.1, h.2⟩) (Cert.KernelIdeal.Paged.run_main (F := Ideal) m ρ)

/-- The reference's run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The shapes that the precondition's operations relate. -/
theorem pre_facts : Cert.Pre_table_ok_KernelIdeal.Facts where
  bcast_S256_S1x256_1 := by decide
  bcast_S1x256_S32x256_0_1 := by decide
  bcast_S32x1_S32x256_0_1 := by decide
  bcast_S_S32x1x16x128 := by decide
  bcast_S_S256x32x16x128 := by decide
  bcast_S_S32x1 := by decide
  bcast_S_S32x256 := by decide

/-- The same over the reference's arrays. -/
theorem pre_facts_reference : Cert.Pre_table_ok_ReferenceIdeal.Facts where
  bcast_S256_S1x256_1 := by decide
  bcast_S1x256_S32x256_0_1 := by decide
  bcast_S32x1_S32x256_0_1 := by decide
  bcast_S_S32x1x16x128 := by decide
  bcast_S_S512x32x16x128 := by decide
  bcast_S_S32x1 := by decide
  bcast_S_S32x256 := by decide

/-- On every device the kernel ends with the reference's result. -/
theorem algebraic [hP : Cert.Pre_table_ok_KernelIdeal.Facts] : Cert.algebraic_KernelIdeal_ReferenceIdeal_pre_table_ok_KernelIdeal :=
  fun m ρ m' ρ' hpre hm => ⟨Cert.ReferenceIdeal.Value.res_main_v22 m' 0,
    (θ_run Cert.KernelIdeal.defs _ _).mono (fun _ h c =>
      ⟨(h.1 c).1.trans ((Cert.KernelIdeal.Paged.value_eq m _ _ _ _ _ hpre (fun c => (hm c).1) (fun c => (hm c).2.1) (fun c => (hm c).2.2.1)
          (fun c => (hm c).2.2.2.1) (fun c => (hm c).2.2.2.2) c).trans (Cert.ReferenceIdeal.Attended.res_eq m' 0).symm), (h.1 c).2.1⟩)
      (Cert.KernelIdeal.Paged.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts, pre_facts, pre_facts_reference,
  frame_kernel, frame_ideal, fun m ρ _ => frame_ideal m ρ trivial, frame_reference, fun m ρ _ => frame_reference m ρ trivial, trivial, algebraic (hP := pre_facts)⟩

end Cert.Proof

end
